-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S2x256x4096 : Shape := ⟨3, ![2, 256, 4096]⟩
abbrev S2 : Shape := ⟨1, ![2]⟩
abbrev S_ : Shape := ⟨0, ![]⟩
abbrev S256x256 : Shape := ⟨2, ![256, 256]⟩
abbrev S256x4096 : Shape := ⟨2, ![256, 4096]⟩
abbrev S1x256x4096 : Shape := ⟨3, ![1, 256, 4096]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S256x8192, .f32⟩
  | .local _ .vmem, ⟨3, _⟩ => ⟨S2x256x4096, .bf16⟩
  | .local _ .vmem, ⟨4, _⟩ => ⟨S2x256x4096, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_10 : BitVec 32 := 16#32
  let v13 : BitVec 32 := Scalar.addi v2 c16_i32_10
  let c1_i32_11 : BitVec 32 := 1#32
  let v14 : BitVec 32 := Scalar.subi v13 c1_i32_11
  let c16_i32_12 : BitVec 32 := 16#32
  let v15 : BitVec 32 := Scalar.remsi v14 c16_i32_12
  let c256_i32 : BitVec 32 := 256#32
  let v16 : BitVec 32 := Scalar.muli v15 c256_i32
  let v17 : Index := Scalar.indexCast v16
  let c0 : Index := 0#32
  ![v17.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.addi v2 c1_i32_18
  let c16_i32_19 : BitVec 32 := 16#32
  let v28 : BitVec 32 := Scalar.remsi v27 c16_i32_19
  let c256_i32_20 : BitVec 32 := 256#32
  let v29 : BitVec 32 := Scalar.muli v28 c256_i32_20
  let v30 : Index := Scalar.indexCast v29
  let c0_21 : Index := 0#32
  ![v30.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_31 : BitVec 32 := 1#32
  let v40 : BitVec 32 := Scalar.muli v7 c1_i32_31
  let v41 : BitVec 32 := Scalar.addi c0_i32_32 v40
  v41.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_41 : BitVec 32 := 1#32
  let v50 : BitVec 32 := Scalar.muli v5 c1_i32_41
  let v51 : BitVec 32 := Scalar.addi c0_i32_42 v50
  v51.toNat
def k0_off3 (d0 : Dev nD) (c0_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_47 : BitVec 32 := 16#32
  let v60 : BitVec 32 := Scalar.addi v2 c16_i32_47
  let c2_i32_48 : BitVec 32 := 2#32
  let v61 : BitVec 32 := Scalar.subi v60 c2_i32_48
  let v62 : BitVec 32 := Scalar.subi v61 c0_i32_49
  let c16_i32_50 : BitVec 32 := 16#32
  let v63 : BitVec 32 := Scalar.remsi v62 c16_i32_50
  let c256_i32_51 : BitVec 32 := 256#32
  let v64 : BitVec 32 := Scalar.muli v63 c256_i32_51
  let v65 : Index := Scalar.indexCast v64
  let c0_52 : Index := 0#32
  ![v65.toNat, 0]
def k0_off4 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v71 : BitVec 32 := Scalar.addi v2 c0_i32_56
  let c2_i32_57 : BitVec 32 := 2#32
  let v72 : BitVec 32 := Scalar.addi v71 c2_i32_57
  let c16_i32_58 : BitVec 32 := 16#32
  let v73 : BitVec 32 := Scalar.remsi v72 c16_i32_58
  let c256_i32_59 : BitVec 32 := 256#32
  let v74 : BitVec 32 := Scalar.muli v73 c256_i32_59
  let v75 : Index := Scalar.indexCast v74
  let c0_60 : Index := 0#32
  ![v75.toNat, 0]
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_83 : BitVec 32 := 1#32
  let v93 : BitVec 32 := Scalar.muli v5 c1_i32_83
  let v94 : BitVec 32 := Scalar.addi c0_i32_84 v93
  v94.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_86 : BitVec 32 := 1#32
  let v95 : BitVec 32 := Scalar.muli v7 c1_i32_86
  let v96 : BitVec 32 := Scalar.addi c0_i32_87 v95
  v96.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_127 : BitVec 32 := 1#32
  let v129 : BitVec 32 := Scalar.muli v7 c1_i32_127
  let v130 : BitVec 32 := Scalar.addi c0_i32_128 v129
  v130.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_137 : BitVec 32 := 1#32
  let v139 : BitVec 32 := Scalar.muli v5 c1_i32_137
  let v140 : BitVec 32 := Scalar.addi c0_i32_138 v139
  v140.toNat
def k0_dev9 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_179 : BitVec 32 := 1#32
  let v182 : BitVec 32 := Scalar.muli v5 c1_i32_179
  let v183 : BitVec 32 := Scalar.addi c0_i32_180 v182
  v183.toNat
def k0_dev10 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_182 : BitVec 32 := 1#32
  let v184 : BitVec 32 := Scalar.muli v7 c1_i32_182
  let v185 : BitVec 32 := Scalar.addi c0_i32_183 v184
  v185.toNat
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_224 : BitVec 32 := 1#32
  let v218 : BitVec 32 := Scalar.muli v7 c1_i32_224
  let v219 : BitVec 32 := Scalar.addi c0_i32_225 v218
  v219.toNat
def k0_dev12 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_234 : BitVec 32 := 1#32
  let v228 : BitVec 32 := Scalar.muli v5 c1_i32_234
  let v229 : BitVec 32 := Scalar.addi c0_i32_235 v228
  v229.toNat
def k0_dev13 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_276 : BitVec 32 := 1#32
  let v271 : BitVec 32 := Scalar.muli v5 c1_i32_276
  let v272 : BitVec 32 := Scalar.addi c0_i32_277 v271
  v272.toNat
def k0_dev14 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_279 : BitVec 32 := 1#32
  let v273 : BitVec 32 := Scalar.muli v7 c1_i32_279
  let v274 : BitVec 32 := Scalar.addi c0_i32_280 v273
  v274.toNat
def k0_dev15 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_321 : BitVec 32 := 1#32
  let v307 : BitVec 32 := Scalar.muli v7 c1_i32_321
  let v308 : BitVec 32 := Scalar.addi c0_i32_322 v307
  v308.toNat
def k0_dev16 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_331 : BitVec 32 := 1#32
  let v317 : BitVec 32 := Scalar.muli v5 c1_i32_331
  let v318 : BitVec 32 := Scalar.addi c0_i32_332 v317
  v318.toNat
def k0_dev17 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_372 : BitVec 32 := 1#32
  let v360 : BitVec 32 := Scalar.muli v5 c1_i32_372
  let v361 : BitVec 32 := Scalar.addi c0_i32_373 v360
  v361.toNat
def k0_dev18 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_375 : BitVec 32 := 1#32
  let v362 : BitVec 32 := Scalar.muli v7 c1_i32_375
  let v363 : BitVec 32 := Scalar.addi c0_i32_376 v362
  v363.toNat
def k0_dev19 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_417 : BitVec 32 := 1#32
  let v396 : BitVec 32 := Scalar.muli v7 c1_i32_417
  let v397 : BitVec 32 := Scalar.addi c0_i32_418 v396
  v397.toNat
def k0_dev20 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_427 : BitVec 32 := 1#32
  let v406 : BitVec 32 := Scalar.muli v5 c1_i32_427
  let v407 : BitVec 32 := Scalar.addi c0_i32_428 v406
  v407.toNat
def k0_dev21 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_468 : BitVec 32 := 1#32
  let v449 : BitVec 32 := Scalar.muli v5 c1_i32_468
  let v450 : BitVec 32 := Scalar.addi c0_i32_469 v449
  v450.toNat
def k0_dev22 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_471 : BitVec 32 := 1#32
  let v451 : BitVec 32 := Scalar.muli v7 c1_i32_471
  let v452 : BitVec 32 := Scalar.addi c0_i32_472 v451
  v452.toNat
def k0_dev23 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_513 : BitVec 32 := 1#32
  let v485 : BitVec 32 := Scalar.muli v7 c1_i32_513
  let v486 : BitVec 32 := Scalar.addi c0_i32_514 v485
  v486.toNat
def k0_dev24 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_523 : BitVec 32 := 1#32
  let v495 : BitVec 32 := Scalar.muli v5 c1_i32_523
  let v496 : BitVec 32 := Scalar.addi c0_i32_524 v495
  v496.toNat
def k0_dev25 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_564 : BitVec 32 := 1#32
  let v538 : BitVec 32 := Scalar.muli v5 c1_i32_564
  let v539 : BitVec 32 := Scalar.addi c0_i32_565 v538
  v539.toNat
def k0_dev26 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_567 : BitVec 32 := 1#32
  let v540 : BitVec 32 := Scalar.muli v7 c1_i32_567
  let v541 : BitVec 32 := Scalar.addi c0_i32_568 v540
  v541.toNat
def k0_dev27 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_609 : BitVec 32 := 1#32
  let v574 : BitVec 32 := Scalar.muli v7 c1_i32_609
  let v575 : BitVec 32 := Scalar.addi c0_i32_610 v574
  v575.toNat
def k0_dev28 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_619 : BitVec 32 := 1#32
  let v584 : BitVec 32 := Scalar.muli v5 c1_i32_619
  let v585 : BitVec 32 := Scalar.addi c0_i32_620 v584
  v585.toNat
def k0_dev29 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_660 : BitVec 32 := 1#32
  let v627 : BitVec 32 := Scalar.muli v5 c1_i32_660
  let v628 : BitVec 32 := Scalar.addi c0_i32_661 v627
  v628.toNat
def k0_dev30 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_663 : BitVec 32 := 1#32
  let v629 : BitVec 32 := Scalar.muli v7 c1_i32_663
  let v630 : BitVec 32 := Scalar.addi c0_i32_664 v629
  v630.toNat
def k0_dev31 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_705 : BitVec 32 := 1#32
  let v663 : BitVec 32 := Scalar.muli v7 c1_i32_705
  let v664 : BitVec 32 := Scalar.addi c0_i32_706 v663
  v664.toNat
def k0_dev32 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_715 : BitVec 32 := 1#32
  let v673 : BitVec 32 := Scalar.muli v5 c1_i32_715
  let v674 : BitVec 32 := Scalar.addi c0_i32_716 v673
  v674.toNat
def k0_dev33 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_756 : BitVec 32 := 1#32
  let v716 : BitVec 32 := Scalar.muli v5 c1_i32_756
  let v717 : BitVec 32 := Scalar.addi c0_i32_757 v716
  v717.toNat
def k0_dev34 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_759 : BitVec 32 := 1#32
  let v718 : BitVec 32 := Scalar.muli v7 c1_i32_759
  let v719 : BitVec 32 := Scalar.addi c0_i32_760 v718
  v719.toNat
def k0_dev35 (d0 : Dev nD) : Nat :=
  let c0_i32_802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_801 : BitVec 32 := 1#32
  let v752 : BitVec 32 := Scalar.muli v7 c1_i32_801
  let v753 : BitVec 32 := Scalar.addi c0_i32_802 v752
  v753.toNat
def k0_dev36 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_811 : BitVec 32 := 1#32
  let v762 : BitVec 32 := Scalar.muli v5 c1_i32_811
  let v763 : BitVec 32 := Scalar.addi c0_i32_812 v762
  v763.toNat
def k0_dev37 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_852 : BitVec 32 := 1#32
  let v805 : BitVec 32 := Scalar.muli v5 c1_i32_852
  let v806 : BitVec 32 := Scalar.addi c0_i32_853 v805
  v806.toNat
def k0_dev38 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_855 : BitVec 32 := 1#32
  let v807 : BitVec 32 := Scalar.muli v7 c1_i32_855
  let v808 : BitVec 32 := Scalar.addi c0_i32_856 v807
  v808.toNat
def k0_dev39 (d0 : Dev nD) : Nat :=
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_897 : BitVec 32 := 1#32
  let v841 : BitVec 32 := Scalar.muli v7 c1_i32_897
  let v842 : BitVec 32 := Scalar.addi c0_i32_898 v841
  v842.toNat
def k0_dev40 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_907 : BitVec 32 := 1#32
  let v851 : BitVec 32 := Scalar.muli v5 c1_i32_907
  let v852 : BitVec 32 := Scalar.addi c0_i32_908 v851
  v852.toNat
def k0_dev41 (d0 : Dev nD) : Nat :=
  let c0_i32_949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_948 : BitVec 32 := 1#32
  let v894 : BitVec 32 := Scalar.muli v5 c1_i32_948
  let v895 : BitVec 32 := Scalar.addi c0_i32_949 v894
  v895.toNat
def k0_dev42 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_951 : BitVec 32 := 1#32
  let v896 : BitVec 32 := Scalar.muli v7 c1_i32_951
  let v897 : BitVec 32 := Scalar.addi c0_i32_952 v896
  v897.toNat
def k0_dev43 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_993 : BitVec 32 := 1#32
  let v930 : BitVec 32 := Scalar.muli v7 c1_i32_993
  let v931 : BitVec 32 := Scalar.addi c0_i32_994 v930
  v931.toNat
def k0_dev44 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1003 : BitVec 32 := 1#32
  let v940 : BitVec 32 := Scalar.muli v5 c1_i32_1003
  let v941 : BitVec 32 := Scalar.addi c0_i32_1004 v940
  v941.toNat
def k0_dev45 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1044 : BitVec 32 := 1#32
  let v983 : BitVec 32 := Scalar.muli v5 c1_i32_1044
  let v984 : BitVec 32 := Scalar.addi c0_i32_1045 v983
  v984.toNat
def k0_dev46 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1047 : BitVec 32 := 1#32
  let v985 : BitVec 32 := Scalar.muli v7 c1_i32_1047
  let v986 : BitVec 32 := Scalar.addi c0_i32_1048 v985
  v986.toNat
def k0_dev47 (d0 : Dev nD) : Nat :=
  let c0_i32_1090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1089 : BitVec 32 := 1#32
  let v1019 : BitVec 32 := Scalar.muli v7 c1_i32_1089
  let v1020 : BitVec 32 := Scalar.addi c0_i32_1090 v1019
  v1020.toNat
def k0_dev48 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1099 : BitVec 32 := 1#32
  let v1029 : BitVec 32 := Scalar.muli v5 c1_i32_1099
  let v1030 : BitVec 32 := Scalar.addi c0_i32_1100 v1029
  v1030.toNat
def k0_dev49 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1140 : BitVec 32 := 1#32
  let v1072 : BitVec 32 := Scalar.muli v5 c1_i32_1140
  let v1073 : BitVec 32 := Scalar.addi c0_i32_1141 v1072
  v1073.toNat
def k0_dev50 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1143 : BitVec 32 := 1#32
  let v1074 : BitVec 32 := Scalar.muli v7 c1_i32_1143
  let v1075 : BitVec 32 := Scalar.addi c0_i32_1144 v1074
  v1075.toNat
def k0_dev51 (d0 : Dev nD) : Nat :=
  let c0_i32_1186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1185 : BitVec 32 := 1#32
  let v1108 : BitVec 32 := Scalar.muli v7 c1_i32_1185
  let v1109 : BitVec 32 := Scalar.addi c0_i32_1186 v1108
  v1109.toNat
def k0_dev52 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1195 : BitVec 32 := 1#32
  let v1118 : BitVec 32 := Scalar.muli v5 c1_i32_1195
  let v1119 : BitVec 32 := Scalar.addi c0_i32_1196 v1118
  v1119.toNat
def k0_dev53 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1236 : BitVec 32 := 1#32
  let v1161 : BitVec 32 := Scalar.muli v5 c1_i32_1236
  let v1162 : BitVec 32 := Scalar.addi c0_i32_1237 v1161
  v1162.toNat
def k0_dev54 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1239 : BitVec 32 := 1#32
  let v1163 : BitVec 32 := Scalar.muli v7 c1_i32_1239
  let v1164 : BitVec 32 := Scalar.addi c0_i32_1240 v1163
  v1164.toNat
def k0_dev55 (d0 : Dev nD) : Nat :=
  let c0_i32_1282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1281 : BitVec 32 := 1#32
  let v1197 : BitVec 32 := Scalar.muli v7 c1_i32_1281
  let v1198 : BitVec 32 := Scalar.addi c0_i32_1282 v1197
  v1198.toNat
def k0_dev56 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1291 : BitVec 32 := 1#32
  let v1207 : BitVec 32 := Scalar.muli v5 c1_i32_1291
  let v1208 : BitVec 32 := Scalar.addi c0_i32_1292 v1207
  v1208.toNat
def k0_dev57 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1332 : BitVec 32 := 1#32
  let v1250 : BitVec 32 := Scalar.muli v5 c1_i32_1332
  let v1251 : BitVec 32 := Scalar.addi c0_i32_1333 v1250
  v1251.toNat
def k0_dev58 (d0 : Dev nD) : Nat :=
  let c0_i32_1336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1335 : BitVec 32 := 1#32
  let v1252 : BitVec 32 := Scalar.muli v7 c1_i32_1335
  let v1253 : BitVec 32 := Scalar.addi c0_i32_1336 v1252
  v1253.toNat
def k0_dev59 (d0 : Dev nD) : Nat :=
  let c0_i32_1378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1377 : BitVec 32 := 1#32
  let v1286 : BitVec 32 := Scalar.muli v7 c1_i32_1377
  let v1287 : BitVec 32 := Scalar.addi c0_i32_1378 v1286
  v1287.toNat
def k0_dev60 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1387 : BitVec 32 := 1#32
  let v1296 : BitVec 32 := Scalar.muli v5 c1_i32_1387
  let v1297 : BitVec 32 := Scalar.addi c0_i32_1388 v1296
  v1297.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
# The kernel's body as a prologue and fifteen ring steps

The generated program is one long list of statements. Here the same statements are grouped by what they do:
the prologue (neighbour handshake and the two first partial products), then ring steps 0 … 14, each over a
slot index and a direction. `body_eq` says that the grouping changes nothing.

A direction is a `Bool`: `true` is the buffer that travels to the right neighbour, `false` the one that
travels to the left.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.RingProof

open Cert.KernelIdeal Cert.KernelIdeal.Gen
open Idealize.ShloMosaic Idealize.SL.Sem Idealize.ShloMosaic.Pipeline

variable {F : FTy → Type} [FloatOps F]

/-! ## Buffers, slots and semaphores of a direction -/

abbrev xM : Memref sig .tc .vmem S4096x256 .f32 := Memref.whole cc0_stg0_0
abbrev wM : Memref sig .tc .vmem S256x8192 .f32 := Memref.whole cc0_stg1_0
abbrev oM : Memref sig .tc .vmem S256x8192 .f32 := Memref.whole cc0_stg2_0

/-- The two-slot buffer of a direction, as a reference. -/
abbrev bufR : Bool → Ref sig .tc
  | true => cc0_scratch0
  | false => cc0_scratch1

/-- The two-slot buffer of a direction. -/
abbrev bufM : Bool → Memref sig .tc .vmem S2x256x4096 .bf16
  | true => Memref.whole cc0_scratch0
  | false => Memref.whole cc0_scratch1

/-- Each buffer is taken whole. -/
theorem bufW : ∀ δ, (bufM δ).IsWhole
  | true => Memref.isWhole_whole _
  | false => Memref.isWhole_whole _

/-- The pair of send semaphores of a direction. -/
abbrev sendS : Bool → DmaSems sig S2
  | true => cc0_scratch2
  | false => cc0_scratch4

/-- The pair of receive semaphores of a direction. -/
abbrev recvS : Bool → DmaSems sig S2
  | true => cc0_scratch3
  | false => cc0_scratch5

/-- The credit semaphore of a direction. -/
abbrev credS : Bool → Sem sig
  | true => (cc0_scratch6 : Sems sig S_).sem
  | false => (cc0_scratch7 : Sems sig S_).sem

/-- The entry barrier. -/
abbrev barS : Sem sig := (SemArray.scalar (sig.barrier 0 rfl) : Sems sig S_).sem

/-- A slot lies in its buffer. -/
theorem slot_inb (j : Fin 2) : ∀ a, (![j.val, 0, 0] : Fin 3 → Nat) a + S1x256x4096.size a ≤ S2x256x4096.size a := by
  fin_cases j
  · exact inb_S2x256x4096_S1x256x4096_0_0_0
  · exact inb_S2x256x4096_S1x256x4096_1_0_0

/-- The rectangle of slot `j`. -/
abbrev slotR (j : Fin 2) : Rect S2x256x4096 := Rect.unit (s := S2x256x4096) ![j.val, 0, 0] S1x256x4096.size (slot_inb j)

/-- A slot is made of whole words. -/
theorem slot_words (j : Fin 2) : (slotR j).WholeWords (EltTy.packing .bf16) := by
  fin_cases j
  · exact wordsbf16_S2x256x4096_S1x256x4096_0_0_0
  · exact wordsbf16_S2x256x4096_S1x256x4096_1_0_0

/-- A slot's rows are packed. -/
theorem slot_packed (j : Fin 2) : (slotR j).PackedRows (EltTy.packing .bf16) := by
  fin_cases j
  · exact packedbf16_S2x256x4096_S1x256x4096_0_0_0
  · exact packedbf16_S2x256x4096_S1x256x4096_1_0_0

/-- Slot `j` of a direction's buffer, as a transfer sees it: a 256 × 4096 block. -/
abbrev slotM (δ : Bool) (j : Fin 2) : Memref sig .tc .vmem S256x4096 .bf16 :=
  ((bufM δ).slice (slotR j) (fun _ => rfl)).squeeze S256x4096 squeezes_S1x256x4096_S256x4096

/-- A slot as a transfer sees it is made of whole words. -/
theorem slot_exact (δ : Bool) (j : Fin 2) : (slotM δ j).view.WordExact :=
  ((bufW δ).wordExact_slice rfl _ (slot_words j)).reshape _ _

/-- A semaphore of a pair lies in it. -/
theorem sem_inb (j : Fin 2) : ∀ a, (![j.val] : Fin 1 → Nat) a + S1.size a ≤ S2.size a := by
  fin_cases j
  · exact inb_S2_S1_0
  · exact inb_S2_S1_1

/-- Semaphore `j` of a pair. -/
abbrev semAt (A : DmaSems sig S2) (j : Fin 2) : DmaSem sig :=
  ((A.slice (Rect.unit (s := S2) ![j.val] S1.size (sem_inb j))).squeeze S_ squeezes_S1_S_).sem

/-- The other slot. -/
abbrev other : Fin 2 → Fin 2
  | 0 => 1
  | 1 => 0

/-- The slot sent from at step `s`. -/
abbrev slotOf (s : ℕ) : Fin 2 := ⟨s % 2, Nat.mod_lt _ (by decide)⟩

/-- The half of the columns a direction works on: where it starts. -/
abbrev colOff : Bool → Fin 2 → ℕ
  | true => ![0, 0]
  | false => ![0, 4096]

/-- A direction's columns lie in the block. -/
theorem col_inb : ∀ δ, ∀ a, (colOff δ) a + S256x4096.size a ≤ S256x8192.size a
  | true => inb_S256x8192_S256x4096_0_0
  | false => inb_S256x8192_S256x4096_0_4096

/-- The columns of a direction, of a 256 × 8192 block. -/
abbrev colR (δ : Bool) : Rect S256x8192 := Rect.unit (s := S256x8192) (colOff δ) S256x4096.size (col_inb δ)

/-! ## The device a direction sends to, and the one it sends its credits to, as the program computes them -/

abbrev devR (c : Dev nD) : Dev nD := ⟨k0_dev3 c, k0_dev3_lt c⟩
abbrev devL (c : Dev nD) : Dev nD := ⟨k0_dev4 c, k0_dev4_lt c⟩

/-- The device a direction's transfers go to. -/
abbrev dstDev : Bool → Dev nD → Dev nD
  | true => devR
  | false => devL

/-! ## The rows of `x` a partial product reads -/

abbrev offS (δ : Bool) (c : Dev nD) (s : Fin 15) : Fin 2 → ℕ :=
  match δ with
  | true => k0_off3 c (BitVec.ofNat 32 s.val)
  | false => k0_off4 c (BitVec.ofNat 32 s.val)

/-- The rows a step reads lie in `x`. -/
theorem offS_inb : ∀ δ (c : Dev nD) (s : Fin 15), ∀ a, offS δ c s a + S256x256.size a ≤ S4096x256.size a
  | true, c, s => k0_off3_inb c s
  | false, c, s => k0_off4_inb c s

abbrev offI (δ : Bool) (c : Dev nD) : Fin 2 → ℕ :=
  match δ with
  | true => k0_off1 c
  | false => k0_off2 c

/-- The rows read before the ring starts lie in `x`. -/
theorem offI_inb : ∀ δ (c : Dev nD), ∀ a, offI δ c a + S256x256.size a ≤ S4096x256.size a
  | true, c => k0_off1_inb c
  | false, c => k0_off2_inb c

/-- The rectangle of `x` read before the ring starts. -/
abbrev rowI (δ : Bool) (c : Dev nD) : Rect S4096x256 := Rect.unit (s := S4096x256) (offI δ c) S256x256.size (offI_inb δ c)
/-- The rectangle of `x` read at step `s`. -/
abbrev rowS (δ : Bool) (c : Dev nD) (s : Fin 15) : Rect S4096x256 := Rect.unit (s := S4096x256) (offS δ c s) S256x256.size (offS_inb δ c s)

/-! ## Statements -/

abbrev PT (F : FTy → Type) [FloatOps F] (α : Type) : Type _ := Prog (TpuEff nD τ sig (Elt F) Λ₀ .tc) α

/-- Read a 256 × 256 block of `x` and a direction's columns of `w`. -/
abbrev readXW (δ : Bool) (r : Fin 2 → ℕ) (h : ∀ a, r a + S256x256.size a ≤ S4096x256.size a) :
    PT F (Vec F S256x256 .f32 × Vec F S256x4096 .f32) := do
  let x : Vec F S256x256 .f32 ← Prog.lift (.load xM (Rect.unit (s := S4096x256) r S256x256.size h).toLoadRect (View.loadsAt_vmem h_S256x256))
  let w : Vec F S256x4096 .f32 ← Prog.lift (.load wM (colR δ).toLoadRect (View.loadsAt_vmem h_S256x4096))
  pure (x, w)

/-- Read slot `j` of a direction. -/
abbrev readSlot (δ : Bool) (j : Fin 2) : PT F (Vec F S1x256x4096 .bf16) :=
  Prog.lift (.load (bufM δ) (slotR j).toLoadRect (View.loadsAt_vmem h_S1x256x4096))

/-- Write slot `j` of a direction (the program reads it first, and drops what it read). -/
abbrev writeSlot (δ : Bool) (j : Fin 2) (v : Vec F S1x256x4096 .bf16) : PT F PUnit := do
  let _ ← readSlot δ j
  Prog.lift (.store (bufM δ) (slotR j) v Finset.univ
    (View.stores_vmem h_S1x256x4096 ((bufW δ).storeExact_slice rfl _ (slot_packed j)) (fun _ => rfl)) (.inl rfl))

/-- Start the transfer of slot `j` to the other slot of the neighbour. -/
abbrev startSend (δ : Bool) (j : Fin 2) (d : Dev nD) : PT F PUnit :=
  Prog.lift (.enqueueDma (slotM δ j) (.remote (Dev.tc d) (slotM δ (other j)) (.dma (semAt (sendS δ) j))) (.dma (semAt (recvS δ) (other j)))
    (slot_exact δ j) (slot_exact δ (other j)) ⟨⟨rfl, Or.inl rfl⟩, trivial⟩)

/-- Wait until slot `j` has been read out. -/
abbrev waitSend (δ : Bool) (j : Fin 2) : PT F PUnit :=
  Prog.lift (.waitDma2 (semAt (sendS δ) j) (slotM δ (other j)) (slotM δ j) (slot_exact δ (other j)) (slot_exact δ j))

/-- Wait until the other slot than `j` has been filled. -/
abbrev waitRecv (δ : Bool) (j : Fin 2) : PT F PUnit :=
  Prog.lift (.waitDma2 (semAt (recvS δ) (other j)) (slotM δ j) (slotM δ (other j)) (slot_exact δ j) (slot_exact δ (other j)))

/-- Store a direction's columns of the result (the program reads them first, and drops what it read). -/
abbrev writeOut (δ : Bool) (v : Vec F S256x4096 .f32) : PT F PUnit := do
  let _ : Vec F S256x4096 .f32 ← Prog.lift (.load oM (colR δ).toLoadRect (View.loadsAt_vmem h_S256x4096))
  Prog.lift (.store oM (colR δ) v Finset.univ (View.stores_vmem_bits_univ h_S256x4096 rfl) (.inl rfl))

/-! ## The prologue and the steps -/

/-- Handshake with both neighbours, then the first partial product of each direction into slot 0. -/
def prologue (c : Dev nD) : PT F PUnit := do
  semSignalWord (⟨k0_dev1 c, k0_dev1_lt c⟩ : Dev nD) barS 1#32
  semSignalWord (⟨k0_dev2 c, k0_dev2_lt c⟩ : Dev nD) barS 1#32
  semWaitWord barS 2#32
  let p ← readXW true (offI true c) (offI_inb true c)
  writeSlot true 0 (k0_pay3 p.1 p.2)
  let q ← readXW false (offI false c) (offI_inb false c)
  writeSlot false 0 (k0_pay3 q.1 q.2)

/-- Take one credit of each direction. -/
def takeCredits : PT F PUnit := do
  semWaitWord (credS true) 1#32
  semWaitWord (credS false) 1#32

/-- Start both transfers, compute the two partial products of the step meanwhile, and wait for both slots to be read out. -/
def exchange (c : Dev nD) (s : Fin 15) (j : Fin 2) : PT F (FVec F S256x4096 .f32 × FVec F S256x4096 .f32) := do
  startSend true j (devR c)
  startSend false j (devL c)
  let p ← readXW true (offS true c s) (offS_inb true c s)
  let q ← readXW false (offS false c s) (offS_inb false c s)
  waitSend true j
  waitSend false j
  pure (k0_pay5 p.1 p.2, k0_pay5 q.1 q.2)

/-- Give one credit to each neighbour. -/
def giveCredits (c : Dev nD) : PT F PUnit := do
  semSignalWord (devL c) (credS true) 1#32
  semSignalWord (devR c) (credS false) 1#32

/-- Wait for both slots to be filled. -/
def arrivals (j : Fin 2) : PT F PUnit := do
  waitRecv true j
  waitRecv false j

/-- Add a partial product to what arrived, in place. -/
def accumulate (δ : Bool) (j : Fin 2) (p : FVec F S256x4096 .f32) : PT F PUnit := do
  let a ← readSlot δ (other j)
  writeSlot δ (other j) (k0_pay7 p a)

/-- Step `s`, after its credits have been taken, of the steps before the last. -/
def stepRest (c : Dev nD) (s : Fin 15) (j : Fin 2) : PT F PUnit := do
  let p ← exchange c s j
  giveCredits c
  arrivals j
  accumulate true j p.1
  accumulate false j p.2

/-- Step `s` of the steps between the first and the last. -/
def step (c : Dev nD) (s : Fin 15) (j : Fin 2) : PT F PUnit := do
  takeCredits
  stepRest c s j

/-- The last step: what arrived, plus the last partial product, clamped below at zero, is the result. -/
def lastStep (c : Dev nD) : PT F PUnit := do
  takeCredits
  let p ← exchange c 14 0
  arrivals 0
  let a ← readSlot true 1
  writeOut true (k0_pay2 p.1 a)
  let b ← readSlot false 1
  writeOut false (k0_pay2 p.2 b)

/-- Steps 1 … `n`. -/
def midSteps (c : Dev nD) : (n : ℕ) → (h : n < 15) → PT F PUnit
  | 0, _ => pure ⟨⟩
  | n + 1, h => do
    midSteps c n (by omega)
    step c ⟨n + 1, h⟩ (slotOf (n + 1))

/-- The whole body, the device known. -/
def bodyOn (c : Dev nD) : PT F PUnit := do
  prologue c
  stepRest c 0 0
  midSteps c 13 (by decide)
  lastStep c

set_option maxRecDepth 65536 in
/-- The printed body is the grouped one. -/
theorem body_eq : cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7
    = (do let c ← Prog.lift .deviceId; bodyOn c) := by
  chain_rfl

end Cert.RingProof

end
-- ==== Proof.Slots.lean ====
/-
# The two slots of a direction's buffer

A slot is reached in two ways: a transfer sees it as a 256 × 4096 block (`slotM`), a load or a store as a rectangle of the
whole buffer (`slotA`). Both name the same elements. The two slots are disjoint and fill the buffer; what a transfer leaves
in a slot reads as what the slot it came from read.
-/
module

public import proofs.«01_k».proof.Proof.Program
public import Idealize.ShloMosaic.Lib.ViewIndex

@[expose] public section

noncomputable section

namespace Cert.RingProof

open Cert.KernelIdeal Cert.KernelIdeal.Gen
open Idealize.ShloMosaic Idealize.SL.Sem Idealize.ShloMosaic.Pipeline

variable {F : FTy → Type} [FloatOps F]

/-- Slot `j` as a load or a store reaches it. -/
abbrev slotA (δ : Bool) (j : Fin 2) : View sig .tc .vmem S1x256x4096 .bf16 := (bufM δ).access (slotR j)

/-- A transfer's view of a slot covers the elements of the slot's rectangle. -/
theorem slotM_set (δ : Bool) (j : Fin 2) : (slotM δ j).view.set = (slotA δ j).set := View.set_reshape _ _

/-- A load of a slot stays inside it. -/
theorem slot_load_sub (δ : Bool) (j : Fin 2) : (slotA δ j).set ⊆ (slotM δ j).view.set := (slotM_set δ j).symm.subset

/-- A store to a slot stays inside it. -/
theorem slot_store_sub (δ : Bool) (j : Fin 2) : (slotA δ j).setOn Finset.univ ⊆ (slotM δ j).view.set := slot_load_sub δ j

/-- A slot has an element. -/
theorem slot_nonempty (δ : Bool) (j : Fin 2) : (slotM δ j).view.set.Nonempty := by
  rw [slotM_set]
  exact ⟨_, (slotA δ j).emb_mem_set (fun a => ⟨0, by revert a; decide⟩)⟩

/-- The two slots share no element. -/
theorem slots_disjoint (δ : Bool) : Disjoint (slotM δ 0).view.set (slotM δ 1).view.set := by
  rw [slotM_set, slotM_set]
  cases δ <;>
  · refine View.disjoint_slice (Rect.unit_disjoint (s := S2x256x4096) 0 ?_)
    left; decide

/-- Every index of the buffer lies in one of the two slots. -/
theorem slotR_cover (i : S2x256x4096.Idx) : ∃ j : Fin 2, i ∈ (slotR j).set := by
  refine ⟨⟨(i 0).val, (i 0).isLt⟩, Rect.mem_set_unit.mpr fun a => ?_⟩
  have h0 := (i 0).isLt; have h1 := (i 1).isLt; have h2 := (i 2).isLt
  fin_cases a
  · exact ⟨le_refl _, Nat.lt_succ_self _⟩
  · exact ⟨Nat.zero_le _, by simpa using h1⟩
  · exact ⟨Nat.zero_le _, by simpa using h2⟩

/-- The two slots fill the buffer. -/
theorem slots_union (δ : Bool) : (slotM δ 0).view.set ∪ (slotM δ 1).view.set = Finset.univ := by
  refine Finset.eq_univ_iff_forall.mpr fun i => ?_
  rw [slotM_set, slotM_set]
  have key : ∀ j, (slotA δ j).set = (slotR j).set.map (bufM δ).view.emb := fun j => View.set_slice _ _
  have hu : i ∈ (bufM δ).view.set := by
    cases δ
    · rw [show (bufM false).view.set = Finset.univ from View.set_whole _]; exact Finset.mem_univ _
    · rw [show (bufM true).view.set = Finset.univ from View.set_whole _]; exact Finset.mem_univ _
  obtain ⟨x, -, rfl⟩ := Finset.mem_map.mp hu
  rw [key, key, Finset.mem_union]
  obtain ⟨j, hj⟩ := slotR_cover x
  fin_cases j
  · exact Or.inl (Finset.mem_map_of_mem _ hj)
  · exact Or.inr (Finset.mem_map_of_mem _ hj)

/-- A slot written by a transfer reads as the slot the transfer read. -/
theorem slot_land (δ : Bool) (j j' : Fin 2) (fs fd : (bufM δ).view.ty.Contents (Elt F)) :
    (slotA δ j').read (Elt F) ((slotM δ j').view.write (Elt F) fd ((slotM δ j).view.read (Elt F) fs) Finset.univ)
      = (slotA δ j).read (Elt F) fs := by
  funext x
  have hn : S256x4096.numel = S1x256x4096.numel := Shape.Squeezes.numel_eq squeezes_S1x256x4096_S256x4096
  obtain ⟨y, rfl⟩ := (Shape.reshapeEquiv hn).surjective x
  exact View.read_write_reshape (slotA δ j') hn fd _ y

/-- A slot written by a store reads as what was stored. -/
theorem slot_stored (δ : Bool) (j : Fin 2) (f : (bufM δ).view.ty.Contents (Elt F)) (v : Vec F S1x256x4096 .bf16) :
    (slotA δ j).read (Elt F) ((slotA δ j).write (Elt F) f v Finset.univ) = v :=
  View.read_write_univ (v := slotA δ j) f v

/-- What a transfer of a slot credits, in each direction. -/
def N : ℕ := (slotM true 0).view.dmaCredit

/-- A transfer credits something. -/
theorem N_pos : 0 < N := View.dmaCredit_pos _ (by decide)

/-- Every slot credits the same. -/
theorem slot_credit : ∀ (δ : Bool) (j : Fin 2), (slotM δ j).view.dmaCredit = N
  | true, _ => rfl
  | false, _ => rfl

end Cert.RingProof

end
-- ==== Proof.Protocol.lean ====
/-
# The ring's protocol

Sixteen devices in a ring; direction `true` moves its buffer to the right neighbour, `false` to the left. In each direction a
device sends one slot of its buffer to the other slot of the neighbour, fifteen times.

Who waits for what, and what comes with it:

* the ENTRY BARRIER of a device: one unit from each neighbour. A neighbour's unit says that slot 1 of its buffer is free for the
  first transfer of the direction that goes to it (`allow … 0`).
* a SEND semaphore: the device's own slot, back after the transfer has read it out.
* a RECEIVE semaphore: the device's own slot, holding the sum the neighbour sent (`acc`).
* a CREDIT semaphore: the neighbour the device sends to says that the next slot is free (`allow`). Credits may run ahead of the
  transfers, so a slot that is free lies in an invariant (Lib/Release.lean), and the credit carries the count of its releases.

A device's dues and its waits are ordered by levels: the send semaphores 0, the barrier 1, and what step `s` receives or credits
`s + 2`.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Mathlib.Algebra.BigOperators.Intervals

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the ring's rounds, the slots' release counts -/

/-- A slot of a device: which device, which direction, which slot. -/
abbrev Key : Type := Dev nD × Bool × Fin 2
abbrev UPipe : Type := URounds (GSem nD τ sig) Unit
abbrev URing : Type := URounds (GSem nD τ sig) ℕ
abbrev USlot : Type := Release.USlots Key
abbrev UU : Type := UPipe × (URing × USlot)

local notation "𝕄" => MT nD τ sig ℕ (Elt F) ℕ UU ℕ

abbrev EP : Emb UPipe (MT nD τ sig ℕ (Elt F) ℕ UU ℕ) := embL
abbrev EX : Emb (URing × USlot) (MT nD τ sig ℕ (Elt F) ℕ UU ℕ) := embR
abbrev ER : Emb URing (MT nD τ sig ℕ (Elt F) ℕ UU ℕ) := (Emb.inl : Emb URing (URing × USlot)).trans EX
abbrev ES : Emb USlot (MT nD τ sig ℕ (Elt F) ℕ UU ℕ) := (Emb.inr : Emb USlot (URing × USlot)).trans EX

variable (m : (ℓ : Loc nD τ sig) → Buf (Elt F) ℓ)

/-! ## The neighbours -/

/-- The neighbour a direction goes to. -/
def dst : Bool → Dev nD → Dev nD
  | true, c => ⟨(c.val + 1) % 16, Nat.mod_lt _ (by decide)⟩
  | false, c => ⟨(c.val + 15) % 16, Nat.mod_lt _ (by decide)⟩

/-- The neighbour a direction comes from. -/
def src (δ : Bool) (c : Dev nD) : Dev nD := dst (!δ) c

/-- The neighbour behind the neighbour ahead is the device itself, -/
theorem src_dst (δ : Bool) (c : Dev nD) : src δ (dst δ c) = c := by revert δ c; decide
/-- and the other way round. -/
theorem dst_src (δ : Bool) (c : Dev nD) : dst δ (src δ c) = c := by revert δ c; decide

/-- A direction as a permutation of the devices. -/
def shift (δ : Bool) : Dev nD ≃ Dev nD := ⟨dst δ, src δ, src_dst δ, dst_src δ⟩

/-- The device each of the program's neighbour computations names. -/
theorem dev1_eq (c : Dev nD) : (⟨k0_dev1 c, k0_dev1_lt c⟩ : Dev nD) = src true c := Fin.ext (k0_dev1_eq c)
/-- The second barrier signal goes to the neighbour that the direction `false` comes from. -/
theorem dev2_eq (c : Dev nD) : (⟨k0_dev2 c, k0_dev2_lt c⟩ : Dev nD) = src false c := Fin.ext (k0_dev2_eq c)
/-- One direction's transfers go to the next device, -/
theorem devR_eq (c : Dev nD) : devR c = dst true c := Fin.ext (k0_dev3_eq c)
/-- the other's to the one before. -/
theorem devL_eq (c : Dev nD) : devL c = dst false c := Fin.ext (k0_dev4_eq c)

/-! ## The cells -/

/-- The semaphores of a device that the protocol speaks of. -/
inductive Cell where
  | bar
  | send (δ : Bool) (j : Fin 2)
  | recv (δ : Bool) (j : Fin 2)
  | cred (δ : Bool)

/-- The semaphore of a cell, -/
abbrev csem : Cell → SemLoc sig
  | .bar => .reg barS
  | .send δ j => .dma (semAt (sendS δ) j)
  | .recv δ j => .dma (semAt (recvS δ) j)
  | .cred δ => .reg (credS δ)

/-- and the cell of a semaphore, read off its number. -/
def kind : SemLoc sig → Option Cell
  | .dma s => match s.val with
    | 3 => some (.send true 0) | 4 => some (.send true 1) | 5 => some (.recv true 0) | 6 => some (.recv true 1)
    | 7 => some (.send false 0) | 8 => some (.send false 1) | 9 => some (.recv false 0) | 10 => some (.recv false 1)
    | _ => none
  | .reg s => match s.val with
    | 0 => some (.cred true) | 1 => some (.cred false) | _ => some .bar

/-- A cell's semaphore tells the cell. -/
theorem kind_csem : ∀ k, kind (csem k) = some k
  | .bar => rfl
  | .send true 0 => rfl | .send true 1 => rfl | .send false 0 => rfl | .send false 1 => rfl
  | .recv true 0 => rfl | .recv true 1 => rfl | .recv false 0 => rfl | .recv false 1 => rfl
  | .cred true => rfl | .cred false => rfl

/-- Different cells have different semaphores. -/
theorem csem_inj {k k' : Cell} (h : csem k = csem k') : k = k' :=
  Option.some.inj ((kind_csem k).symm.trans ((congrArg kind h).trans (kind_csem k')))

/-- The cell of a device. -/
abbrev cell (k : Cell) (c : Dev nD) : GSem nD τ sig := ((c : Thread nD τ), csem k)

/-- A semaphore of a device tells cell and device. -/
theorem cell_inj {k k' : Cell} {c c' : Dev nD} (h : cell k c = cell k' c') : k = k' ∧ c = c' :=
  ⟨csem_inj (congrArg Prod.snd h), congrArg (fun g : GSem nD τ sig => g.1.1) h⟩

/-! ## What the buffers hold -/

/-- `x` and `w` of a device, as the body finds them. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- A direction's columns of `w`. -/
def wCols (δ : Bool) (c : Dev nD) : Vec F S256x4096 .f32 := wM.view.readAt (Elt F) (colR δ).toLoadRect (wstg m c)
/-- The rows of `x` of the first partial product, -/
def xInit (δ : Bool) (c : Dev nD) : Vec F S256x256 .f32 := xM.view.readAt (Elt F) (rowI δ c).toLoadRect (xstg m c)
/-- and of the one of step `s`. -/
def xStep (δ : Bool) (c : Dev nD) (s : Fin 15) : Vec F S256x256 .f32 := xM.view.readAt (Elt F) (rowS δ c s).toLoadRect (xstg m c)

/-- The partial product of step `s`. -/
def part (δ : Bool) (c : Dev nD) (s : Fin 15) : FVec F S256x4096 .f32 := k0_pay5 (xStep m δ c s) (wCols m δ c)

/-- Step `s` as an index, past the last step step 0 again. -/
abbrev stepIx (s : ℕ) : Fin 15 := ⟨s % 15, Nat.mod_lt _ (by decide)⟩

/-- What a device sends at step `s`: its first partial product, and then what it received plus its next one. -/
def acc (δ : Bool) : ℕ → Dev nD → Vec F S1x256x4096 .bf16
  | 0, c => k0_pay3 (xInit m δ c) (wCols m δ c)
  | s + 1, c => k0_pay7 (part m δ c (stepIx s)) (acc δ s (src δ c))

/-- A direction's half of the result. -/
def outHalf (δ : Bool) (c : Dev nD) : FVec F S256x4096 .f32 := k0_pay2 (part m δ c 14) (acc m δ 14 (src δ c))

/-! ## What is handed over -/

/-- A slot, at any contents. -/
abbrev slotRes (k : Key) : sProp 𝕄 := Release.slot ((slotM k.2.1 k.2.2).view.loc (k.1 : Thread nD τ)) (slotM k.2.1 k.2.2).view.set

/-- A slot that reads as `v`. -/
def holds (δ : Bool) (j : Fin 2) (c : Dev nD) (v : Vec F S1x256x4096 .bf16) : sProp 𝕄 :=
  iprop(∃ f : Buf (Elt F) ((slotM δ j).view.loc (c : Thread nD τ)), ⌜(slotA δ j).read (Elt F) f = v⌝
    ∗ ((slotM δ j).view.loc (c : Thread nD τ) ↦[(slotM δ j).view.set]{fullShare} f))

instance holds_storable (δ j c v) : BI.Storable (upEmb : UEmb _ 𝕄) (holds (F := F) δ j c v) := by unfold holds; infer_instance

/-- A slot that holds a value is a slot. -/
theorem holds_forget (δ : Bool) (j : Fin 2) (c : Dev nD) (v : Vec F S1x256x4096 .bf16) : holds δ j c v ⊢ (slotRes (c, δ, j) : sProp 𝕄) := by
  unfold holds slotRes Release.slot
  iintro ⟨%f, -, H⟩
  iexists f; iexact H

/-- Device `d` lets the transfer of step `s` come: the slot it goes to has been released often enough, and the receive semaphore
    has reached the round it pays. -/
def allow (δ : Bool) (d : Dev nD) (s : ℕ) : sProp 𝕄 :=
  iprop(Release.released ES (d, δ, slotOf (s + 1)) (s / 2 + 1) ∗ reached ER (cell (.recv δ (slotOf (s + 1))) d) (s / 2))

instance allow_persistent (δ d s) : BI.Persistent (allow (F := F) δ d s) := by unfold allow; infer_instance
instance allow_storable (δ d s) : BI.Storable (upEmb : UEmb _ 𝕄) (allow (F := F) δ d s) := by unfold allow; infer_instance

/-- Leave for a later step into the same slot is leave for an earlier one. -/
theorem allow_mono (δ : Bool) (d : Dev nD) {s s' : ℕ} (h : s ≤ s') (hp : s % 2 = s' % 2) : allow δ d s' ⊢ (allow δ d s : sProp 𝕄) := by
  unfold allow
  rw [show slotOf (s' + 1) = slotOf (s + 1) from Fin.ext (by show (s' + 1) % 2 = (s + 1) % 2; omega)]
  exact BI.sep_mono (Release.released_mono ES (by omega)) (reached_mono ER (by omega))

/-- What credit `k` of device `d` carries: leave for step `k` and for step `k + 1`. -/
def credPay (δ : Bool) (d : Dev nD) (k : ℕ) : sProp 𝕄 := iprop(allow δ d (k + 1) ∗ allow δ d k)

instance credPay_persistent (δ d k) : BI.Persistent (credPay (F := F) δ d k) := by unfold credPay; infer_instance

/-- Credit `k` is leave for every step up to `k + 1`. -/
theorem credPay_allow (δ : Bool) (d : Dev nD) {s k : ℕ} (h : s ≤ k + 1) : credPay δ d k ⊢ (allow δ d s : sProp 𝕄) := by
  unfold credPay
  by_cases hp : s % 2 = (k + 1) % 2
  · iintro ⟨#H, -⟩
    iapply (allow_mono δ d h hp); iexact H
  · iintro ⟨-, #H⟩
    iapply (allow_mono δ d (show s ≤ k by omega) (by omega)); iexact H

/-! ## The schedule -/

/-- How many rounds a cell runs, -/
def rounds : Cell → ℕ
  | .bar => 1
  | .send _ j => 8 - j.val
  | .recv _ j => 7 + j.val
  | .cred _ => 1

/-- how many duties each of its rounds has, -/
def width : Cell → ℕ
  | .bar => 2
  | .send _ _ => 1
  | .recv _ _ => 1
  | .cred _ => 14

/-- and what a duty brings. -/
def unitOf : Cell → ℕ
  | .bar => 1
  | .send _ _ => N
  | .recv _ _ => N
  | .cred _ => 1

/-- Every duty brings something. -/
theorem unitOf_pos : ∀ k, 0 < unitOf k
  | .bar => Nat.one_pos
  | .send _ _ => N_pos
  | .recv _ _ => N_pos
  | .cred _ => Nat.one_pos

/-- The duty of the barrier that the neighbour of a direction pays. -/
def barDuty : Bool → ℕ
  | true => 1
  | false => 0

/-- What a duty of a cell of device `c` hands over. -/
def payOf (c : Dev nD) : Cell → ℕ → ℕ → sProp 𝕄
  | .bar, _, d => if d = 1 then allow true (dst true c) 0 else allow false (dst false c) 0
  | .send δ j, _, _ => slotRes (c, δ, j)
  | .recv δ j, r, _ => holds δ j c (acc m δ (2 * r + (1 - j.val)) (src δ c))
  | .cred δ, _, d => credPay δ (dst δ c) d

instance payOf_storable (c : Dev nD) (k : Cell) (r d : ℕ) : BI.Storable (upEmb : UEmb _ 𝕄) (payOf m c k r d) := by
  cases k <;> dsimp only [payOf]
  · split <;> infer_instance
  · infer_instance
  · infer_instance
  · unfold credPay; infer_instance

def ringRd : Rounds.Schedule (GSem nD τ sig) ℕ 𝕄 where
  duties g r := match kind g.2 with
    | some k => if r < rounds k then Finset.range (width k) else ∅
    | none => ∅
  unitless _ := False
  amount g _ _ := match kind g.2 with
    | some k => unitOf k
    | none => 1
  payload g r d := match kind g.2 with
    | some k => payOf m g.1.1 k r d
    | none => iprop(emp)
  amount_pos g _ _ _ := by
    split
    · exact unitOf_pos _
    · exact Nat.one_pos

instance ringRd_payload_storable (g : GSem nD τ sig) (r d : ℕ) : BI.Storable (upEmb : UEmb _ 𝕄) ((ringRd m).payload g r d) := by
  dsimp only [ringRd]
  split <;> infer_instance

/-- The duties of a cell's round: as many as its width, in its rounds only. -/
theorem duties_cell (k : Cell) (c : Dev nD) (r : ℕ) :
    (ringRd m).duties (cell k c) r = if r < rounds k then Finset.range (width k) else ∅ := by
  dsimp only [ringRd]; rw [kind_csem]

/-- A number below the width is a duty of every round there is. -/
theorem duty_mem {k : Cell} {c : Dev nD} {r d : ℕ} (hr : r < rounds k) (hd : d < width k) : d ∈ (ringRd m).duties (cell k c) r := by
  rw [duties_cell, if_pos hr]; exact Finset.mem_range.mpr hd

/-- After the last round there are no duties. -/
theorem duties_after (k : Cell) (c : Dev nD) (r : ℕ) (h : rounds k ≤ r) : (ringRd m).duties (cell k c) r = ∅ := by
  rw [duties_cell, if_neg (Nat.not_lt.mpr h)]

/-- What each duty brings. -/
theorem amount_cell (k : Cell) (c : Dev nD) (r d : ℕ) : (ringRd m).amount (cell k c) r d = unitOf k := by
  dsimp only [ringRd]; rw [kind_csem]

/-- What each duty hands over. -/
theorem payload_cell (k : Cell) (c : Dev nD) (r d : ℕ) : (ringRd m).payload (cell k c) r d = payOf m c k r d := by
  dsimp only [ringRd]; rw [kind_csem]

/-- What a round brings in all. -/
theorem expect_cell (k : Cell) (c : Dev nD) (r : ℕ) (hr : r < rounds k) : (ringRd m).expect (cell k c) r = width k * unitOf k := by
  unfold Schedule.expect Schedule.amountOf
  rw [duties_cell, if_pos hr, Finset.sum_congr rfl fun d _ => amount_cell m k c r d, Finset.sum_const, Finset.card_range, smul_eq_mul]

/-- All that a round of one duty hands over. -/
theorem rest_one (k : Cell) (c : Dev nD) (r : ℕ) (hr : r < rounds k) (hw : width k = 1) :
    bigSep ((ringRd m).duties (cell k c) r \ ∅) (fun d => (ringRd m).payload (cell k c) r d) = payOf m c k r 0 := by
  rw [Finset.sdiff_empty, duties_cell, if_pos hr, hw, Finset.range_one, bigSep_singleton, payload_cell]

/-! ## Levels -/

/-- The indices of a cell's credit: the steps. -/
def L (g : GSem nD τ sig) : Finset ℕ := if g.1.2 = .tc then Finset.range 16 else ∅

/-- The level of a cell at an index. -/
def lvOf : Option Cell → ℕ → ℕ
  | none, _ => 0
  | some (.send _ _), _ => 0
  | some .bar, _ => 1
  | some (.recv _ _), i => i + 2
  | some (.cred _), i => i + 2

def lv (g : GSem nD τ sig) (i : ℕ) : ℕ := lvOf (kind g.2) i

/-- A cell of another core has no indices; -/
theorem L_of_ne (g : GSem nD τ sig) (h : g.1.2 ≠ .tc) : L g = ∅ := if_neg h
/-- one of these has the steps. -/
theorem L_tc (c : Dev nD) (sm : SemLoc sig) : L ((c : Thread nD τ), sm) = Finset.range 16 := if_pos rfl
/-- The level of a cell. -/
theorem lv_cell (k : Cell) (c : Dev nD) (i : ℕ) : lv (cell k c) i = lvOf (some k) i := by unfold lv; rw [kind_csem]

/-- All that is owed lies above a level. -/
def Above (b : ℕ) (O : CellTallies nD τ sig ℕ) : Prop := ∀ (g : GSem nD τ sig) (i : ℕ), 0 < O g i → i ∈ L g ∧ b < lv g i

/-- Nothing owed lies above every level. -/
theorem Above.zero (b : ℕ) : Above b 0 := fun g i h => absurd h (Nat.lt_irrefl 0)

/-- Two debts above a level, together. -/
theorem Above.add {b : ℕ} {O O' : CellTallies nD τ sig ℕ} (h : Above b O) (h' : Above b O') : Above b (O + O') := fun g i hp => by
  rw [Pi.add_apply, Finsupp.add_apply] at hp
  rcases Nat.eq_zero_or_pos (O g i) with h0 | h0
  · exact h' g i (by omega)
  · exact h g i h0

/-- A finite sum of debts above a level. -/
theorem Above.sum {b : ℕ} {T : Finset ℕ} {f : ℕ → CellTallies nD τ sig ℕ} (h : ∀ i ∈ T, Above b (f i)) : Above b (∑ i ∈ T, f i) :=
  Finset.sum_induction f (Above b) (fun _ _ => Above.add) (Above.zero b) h

/-- One unit, at a cell whose level is above. -/
theorem Above.tally {b i n : ℕ} {k : Cell} {c : Dev nD} (hi : i < 16) (hb : b < lvOf (some k) i) : Above b (tallyAt (cell k c) i n) := fun g i' hp => by
  rw [tallyAt_apply] at hp
  by_cases h : g = cell k c ∧ i' = i
  · rw [h.1, h.2, L_tc, lv_cell]; exact ⟨Finset.mem_range.mpr hi, hb⟩
  · rw [if_neg h] at hp; exact absurd hp (Nat.lt_irrefl 0)

/-- What lies above a level lies above every lower one. -/
theorem Above.mono {b b' : ℕ} {O : CellTallies nD τ sig ℕ} (hb : b ≤ b') (h : Above b' O) : Above b O :=
  fun g i hp => ⟨(h g i hp).1, lt_of_le_of_lt hb (h g i hp).2⟩

/-- A device may wait on a semaphore whose level is below all it owes. -/
theorem Above.mayWait {c : Dev nD} {sm : SemLoc sig} {i b : ℕ} {O : CellTallies nD τ sig ℕ} (hi : i < 16) (hb : lv ((c : Thread nD τ), sm) i ≤ b)
    (h : Above b O) : (levAts L lv : sProp 𝕄) ⊢ MayWait (c : Thread nD τ) sm i O :=
  MayOwe.of_cut (L := L) (lev := lv) b
    (fun p hp => by rw [Finset.mem_singleton.mp hp, L_tc]; exact Finset.mem_range.mpr hi) (fun g u hg => (h g u hg).1)
    (fun p hp => by rw [Finset.mem_singleton.mp hp]; exact hb) (fun g u hg => (h g u hg).2)

/-! ## What a device owes -/

/-- The arrivals of the steps from `a` on, at the neighbour it sends to, -/
def recvDue (δ : Bool) (c : Dev nD) (a : ℕ) : CellTallies nD τ sig ℕ :=
  ∑ i ∈ Finset.Ico a 15, tallyAt (cell (.recv δ (slotOf (i + 1))) (dst δ c)) i N
/-- the credits of the steps from `a` on, to the neighbour that sends to it, -/
def credDue (δ : Bool) (c : Dev nD) (a : ℕ) : CellTallies nD τ sig ℕ :=
  ∑ i ∈ Finset.Ico a 14, tallyAt (cell (.cred δ) (src δ c)) i 1
/-- and its unit of the barrier of a neighbour. -/
def barDue (δ : Bool) (c : Dev nD) : CellTallies nD τ sig ℕ := tallyAt (cell .bar (src δ c)) 0 1

/-- The arrivals due from a step on: that step's and the rest's. -/
theorem recvDue_step (δ : Bool) (c : Dev nD) {a : ℕ} (h : a < 15) :
    recvDue δ c a = recvDue δ c (a + 1) + tallyAt (cell (.recv δ (slotOf (a + 1))) (dst δ c)) a N := by
  unfold recvDue; rw [Finset.sum_eq_sum_Ico_succ_bot h, add_comm]
/-- The credits due from a step on: that step's and the rest's. -/
theorem credDue_step (δ : Bool) (c : Dev nD) {a : ℕ} (h : a < 14) :
    credDue δ c a = credDue δ c (a + 1) + tallyAt (cell (.cred δ) (src δ c)) a 1 := by
  unfold credDue; rw [Finset.sum_eq_sum_Ico_succ_bot h, add_comm]

/-- After fifteen steps no arrival is due. -/
theorem recvDue_end (δ : Bool) (c : Dev nD) : recvDue δ c 15 = 0 := by unfold recvDue; rw [Finset.Ico_self, Finset.sum_empty]
/-- After fourteen no credit is. -/
theorem credDue_end (δ : Bool) (c : Dev nD) : credDue δ c 14 = 0 := by unfold credDue; rw [Finset.Ico_self, Finset.sum_empty]

/-- The arrivals due from step `a` on lie above level `a + 1`, -/
theorem above_recvDue (δ : Bool) (c : Dev nD) (a : ℕ) : Above (a + 1) (recvDue δ c a) :=
  Above.sum fun i hi => by
    have := Finset.mem_Ico.mp hi
    exact Above.tally (by omega) (by show a + 1 < i + 2; omega)
/-- so do the credits, -/
theorem above_credDue (δ : Bool) (c : Dev nD) (a : ℕ) : Above (a + 1) (credDue δ c a) :=
  Above.sum fun i hi => by
    have := Finset.mem_Ico.mp hi
    exact Above.tally (by omega) (by show a + 1 < i + 2; omega)
/-- and the barrier's unit lies above level 0. -/
theorem above_barDue (δ : Bool) (c : Dev nD) : Above 0 (barDue δ c) := Above.tally (by decide) (by decide)

/-- What a device owes, from step `a` on in arrivals and `b` on in credits, per direction. -/
def due (c : Dev nD) (a a' b b' : ℕ) : CellTallies nD τ sig ℕ :=
  recvDue true c a + recvDue false c a' + (credDue true c b + credDue false c b')

/-- All that is due from step `n` on lies above level `n + 1`. -/
theorem above_due (c : Dev nD) {n a a' b b' : ℕ} (h : n ≤ a) (h' : n ≤ a') (hb : n ≤ b) (hb' : n ≤ b') : Above (n + 1) (due c a a' b b') :=
  (((above_recvDue true c a).mono (by omega)).add ((above_recvDue false c a').mono (by omega))).add
    (((above_credDue true c b).mono (by omega)).add ((above_credDue false c b').mono (by omega)))

/-- What a device owes at launch. -/
def O₀ (c : Dev nD) : CellTallies nD τ sig ℕ := due c 0 0 0 0 + barDue false c + barDue true c

/-- All that is owed at launch lies above level 0. -/
theorem above_O₀ (c : Dev nD) : Above 0 (O₀ c) :=
  ((((above_due c (n := 0) (Nat.zero_le _) (Nat.zero_le _) (Nat.zero_le _) (Nat.zero_le _)).mono (by omega)).add (above_barDue false c)).add (above_barDue true c))

end Cert.RingProof

end
-- ==== Proof.Ops.lean ====
/-
# What each statement of the body does, at a symbolic device

One lemma per kind of statement: what it needs, and what it leaves. A direction, a step and a slot are parameters throughout, so
each is stated once.
-/
module

public import proofs.«01_k».proof.Proof.Protocol

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What every statement may use -/

/-- The cells, listed. -/
def cellList : List Cell :=
  [.bar, .send true 0, .send true 1, .send false 0, .send false 1, .recv true 0, .recv true 1, .recv false 0, .recv false 1, .cred true, .cred false]

instance : DecidableEq Cell := fun a b => decidable_of_iff (csem a = csem b) ⟨csem_inj, fun h => h ▸ rfl⟩

/-- No cell is listed twice. -/
theorem cellList_nodup : cellList.Nodup := by decide

/-- Every cell is listed. -/
theorem mem_cellList (k : Cell) : k ∈ cellList := by
  unfold cellList
  rcases k with _ | ⟨δ, j⟩ | ⟨δ, j⟩ | δ
  · simp
  · cases δ <;> fin_cases j <;> simp
  · cases δ <;> fin_cases j <;> simp
  · cases δ <;> simp

instance : Fintype Cell := ⟨⟨cellList, cellList_nodup⟩, mem_cellList⟩

/-- The names of the cells' invariants and of the slots'. -/
structure Names where
  cells : Dev nD × Cell → ℕ
  slots : Key → ℕ

/-- The records every device holds: all cells' invariants, that round 0 of each is reached, all slots' invariants, the levels. -/
def ctx (K : Names) : sProp 𝕄 :=
  iprop((bigSep Finset.univ fun ck : Dev nD × Cell => cellInv ER (ringRd m) (K.cells ck) (cell ck.2 ck.1))
    ∗ (bigSep Finset.univ fun ck : Dev nD × Cell => reached ER (cell ck.2 ck.1) 0)
    ∗ (bigSep Finset.univ fun k : Key => Release.slotInv ES (K.slots k) k (slotRes k))
    ∗ levAts L lv)

instance ctx_persistent (K : Names) : BI.Persistent (ctx m K) := by unfold ctx; infer_instance

variable (K : Names)

/-- Each cell's invariant is among the records; -/
theorem ctx_cell (k : Cell) (c : Dev nD) : ctx m K ⊢ cellInv ER (ringRd m) (K.cells (c, k)) (cell k c) :=
  sep_elim_left.trans (bigSep_elim (Φ := fun ck : Dev nD × Cell => cellInv ER (ringRd m) (K.cells ck) (cell ck.2 ck.1)) (Finset.mem_univ (c, k)))

/-- so is that its round 0 is reached, -/
theorem ctx_reached (k : Cell) (c : Dev nD) : ctx m K ⊢ reached ER (cell k c) 0 :=
  sep_elim_right.trans (sep_elim_left.trans
    (bigSep_elim (Φ := fun ck : Dev nD × Cell => (reached ER (cell ck.2 ck.1) 0 : sProp 𝕄)) (Finset.mem_univ (c, k))))

/-- each slot's invariant, -/
theorem ctx_slot (k : Key) : ctx m K ⊢ Release.slotInv ES (K.slots k) k (slotRes k) :=
  sep_elim_right.trans (sep_elim_right.trans (sep_elim_left.trans
    (bigSep_elim (Φ := fun k : Key => (Release.slotInv ES (K.slots k) k (slotRes k) : sProp 𝕄)) (Finset.mem_univ k))))

/-- and the levels. -/
theorem ctx_lev : ctx m K ⊢ (levAts L lv : sProp 𝕄) := by
  unfold ctx
  refine sep_elim_right.trans ?_
  refine sep_elim_right.trans ?_
  exact sep_elim_right

/-- A device may wait on a cell whose level is below all it owes. -/
theorem ctx_mayWait (k : Cell) (c : Dev nD) {i b : ℕ} {O : CellTallies nD τ sig ℕ} (hi : i < 16) (hb : lvOf (some k) i ≤ b) (hO : Above b O) :
    ctx m K ⊢ (MayWait (c : Thread nD τ) (csem k) i O : sProp 𝕄) := by
  have h : lv (cell k c) i ≤ b := by rw [lv_cell]; exact hb
  have h2 := @ctx_lev F _ m K
  refine h2.trans ?_
  exact Above.mayWait (F := F) (c := c) (sm := csem k) (i := i) (b := b) (O := O) hi h hO

abbrev 𝒱₀ : Variants := Variants.none

/-- What a device owes, whatever it has waited for so far. -/
def owesW (c : Dev nD) (O : CellTallies nD τ sig ℕ) : sProp 𝕄 := iprop(∃ W : Waits sig ℕ, owes (c : Thread nD τ) O W)

/-- The weakest precondition of a piece of device `c`'s body. -/
abbrev WP (c : Dev nD) {α : Type} (p : PT F α) (Q : α → sProp 𝕄) : sProp 𝕄 := wp frame (wpE (defs₀ (F := F)) 𝒱₀ (c : Thread nD τ) none) Set.univ p Q

/-- A piece followed by another. -/
theorem WP_bind (c : Dev nD) {α β : Type} (p : PT F α) (k : α → PT F β) (Q : β → sProp 𝕄) : WP c (p >>= k) Q = WP c p (fun a => WP c (k a) Q) :=
  wp_bind _ _ _ p k Q

/-- A piece that is done. -/
theorem WP_pure (c : Dev nD) {α : Type} (a : α) (Q : α → sProp 𝕄) : Q a ⊢ WP c (pure a : PT F α) Q := by
  rw [Prog.pure_eq_ret]; unfold WP; rw [wp_ret]
  iintro H; imodintro; iexact H

/-! ## Signals -/

/-- A signal of one unit: it pays one duty of the signalled cell. -/
theorem op_signal (c d : Dev nD) {k : Cell} {sm : Sem sig} (hk : csem k = .reg sm) {r i n : ℕ} (hr : r < rounds k) (hn : n < width k) (hu : unitOf k = 1)
    {O₁ O : CellTallies nD τ sig ℕ} (hO : O₁ = O + tallyAt (cell k d) i 1) (Q : PUnit → sProp 𝕄) :
    iprop(ctx m K ∗ owesW c O₁ ∗ dutyTok ER (cell k d) r n ∗ payOf m d k r n ∗ reached ER (cell k d) r ∗ (owesW c O -∗ Q ⟨⟩))
      ⊢ WP c (semSignalWord d sm 1#32) Q := by
  have hd := duty_mem m (c := d) hr hn
  have ha := (amount_cell m k d r n).trans hu
  have hp := payload_cell m k d r n
  have hi := ctx_cell m K k d
  simp only [cell, hk] at hd ha hp hi hO ⊢
  rw [← hp]
  simp only [semSignalWord, Prog.lift]
  iintro ⟨#Hctx, HO, Ht, Hp, Hr, Hk⟩
  unfold owesW
  icases HO with ⟨%W, HO⟩
  iapply (Rounds.wp_signal 𝒱₀ ER (ringRd m) (c : Thread nD τ) none (dst := (d : Thread nD τ)) (κ := K.cells (d, k)) hd (ha.trans (by decide)) i O hO) $$ [HO Ht Hp Hr]
  · isplitr; · iapply hi; iexact Hctx
    isplitl [HO]; · iexact HO
    isplitl [Ht]; · iexact Ht
    isplitl [Hp]; · iexact Hp
    iexact Hr
  iintro HO
  rw [wp_ret]; imodintro
  iapply Hk
  iexists W; iexact HO

/-- A unit to the barrier of the neighbour a direction comes from: that direction's first transfer may come. -/
theorem op_signalBar (δ : Bool) (c : Dev nD) {O₁ O : CellTallies nD τ sig ℕ} (hO : O₁ = O + barDue δ c) (Q : PUnit → sProp 𝕄) :
    iprop(ctx m K ∗ owesW c O₁ ∗ dutyTok ER (cell .bar (src δ c)) 0 (barDuty δ) ∗ allow δ c 0 ∗ (owesW c O -∗ Q ⟨⟩))
      ⊢ WP c (semSignalWord (src δ c) barS 1#32) Q := by
  have hpay : payOf m (src δ c) .bar 0 (barDuty δ) = allow δ c 0 := by
    have h := dst_src δ c
    cases δ
    · show allow false (dst false (src false c)) 0 = _; rw [h]
    · show allow true (dst true (src true c)) 0 = _; rw [h]
  iintro ⟨#Hctx, HO, Ht, Hp, Hk⟩
  iapply (op_signal m K c (src δ c) (k := .bar) rfl (r := 0) (i := 0) (n := barDuty δ) (by decide) (by cases δ <;> decide) rfl hO Q)
  rw [hpay]
  isplitr; · iexact Hctx
  isplitl [HO]; · iexact HO
  isplitl [Ht]; · iexact Ht
  isplitl [Hp]; · iexact Hp
  isplitr; · iapply (ctx_reached m K .bar (src δ c)); iexact Hctx
  iexact Hk

/-- Credit `s` to the neighbour a direction comes from. -/
theorem op_credit (δ : Bool) (c : Dev nD) {s : ℕ} (hs : s < 14) {O₁ O : CellTallies nD τ sig ℕ}
    (hO : O₁ = O + tallyAt (cell (.cred δ) (src δ c)) s 1) (Q : PUnit → sProp 𝕄) :
    iprop(ctx m K ∗ owesW c O₁ ∗ dutyTok ER (cell (.cred δ) (src δ c)) 0 s ∗ credPay δ c s ∗ (owesW c O -∗ Q ⟨⟩))
      ⊢ WP c (semSignalWord (src δ c) (credS δ) 1#32) Q := by
  have hpay : payOf m (src δ c) (.cred δ) 0 s = credPay δ c s := by
    show credPay δ (dst δ (src δ c)) s = _; rw [dst_src]
  iintro ⟨#Hctx, HO, Ht, Hp, Hk⟩
  iapply (op_signal m K c (src δ c) (k := .cred δ) rfl (r := 0) (i := s) (n := s) (by exact Nat.one_pos) (by exact hs) rfl hO Q)
  rw [hpay]
  isplitr; · iexact Hctx
  isplitl [HO]; · iexact HO
  isplitl [Ht]; · iexact Ht
  isplitl [Hp]; · iexact Hp
  isplitr; · iapply (ctx_reached m K (.cred δ) (src δ c)); iexact Hctx
  iexact Hk

/-! ## Waits -/

/-- A wait for the rest of a cell's round: `w` any statement that waits on the cell. -/
theorem op_waitRest (c : Dev nD) (k : Cell) {w : TpuEff nD τ sig (Elt F) Λ₀ .tc PUnit} {n : ℕ}
    (hw : ∀ Q : PUnit → sProp 𝕄, wpE (defs₀ (F := F)) 𝒱₀ (c : Thread nD τ) none Set.univ w Q = waitSpec (c : Thread nD τ) Set.univ (csem k) n Q)
    {r q i b : ℕ} {T : Finset ℕ} (hr : r < rounds k) (hn : q + n = width k * unitOf k) (hi : i < 16) (hb : lvOf (some k) i ≤ b)
    {O : CellTallies nD τ sig ℕ} (hO : Above b O) (Q : PUnit → sProp 𝕄) :
    iprop(ctx m K ∗ owesW c O ∗ cred (tallyAt (cell k c) i n) ∗ atPos ER (cell k c) r T q
        ∗ ((owesW c O ∗ atPos ER (cell k c) (r + 1) ∅ 0 ∗ reached ER (cell k c) (r + 1)
            ∗ bigSep ((ringRd m).duties (cell k c) r \ T) (fun d => (ringRd m).payload (cell k c) r d)) -∗ Q ⟨⟩))
      ⊢ WP c (Prog.lift w) Q := by
  simp only [Prog.lift]
  iintro ⟨#Hctx, HO, Hc, Hat, Hk⟩
  unfold owesW
  icases HO with ⟨%W, HO⟩
  iapply (Rounds.wp_wait_rest_token 𝒱₀ ER (ringRd m) (c : Thread nD τ) none (κ := K.cells (c, k)) hw (Set.mem_univ _) i (O := O) (W := W) (R := r) (m := q) (T := T)
      (hn.trans (expect_cell m k c r hr).symm)) $$ [Hc HO Hat]
  · isplitr; · iapply (ctx_cell m K k c); iexact Hctx
    isplitl [Hc]; · iexact Hc
    isplitl [HO]; · iexact HO
    isplitr
    · iapply (ctx_mayWait m K k c hi hb hO); iexact Hctx
    iexact Hat
  iintro ⟨HO, Hat, Hr, Hp⟩
  rw [wp_ret]; imodintro
  iapply Hk
  isplitl [HO]; · iexists _; iexact HO
  isplitl [Hat]; · iexact Hat
  isplitl [Hr]; · iexact Hr
  iexact Hp

/-- The barrier: both neighbours let the first transfers come. -/
theorem op_waitBar (c : Dev nD) {O : CellTallies nD τ sig ℕ} (hO : Above 1 O) (Q : PUnit → sProp 𝕄) :
    iprop(ctx m K ∗ owesW c O ∗ cred (tallyAt (cell .bar c) 0 2) ∗ atPos ER (cell .bar c) 0 ∅ 0
        ∗ ((owesW c O ∗ atPos ER (cell .bar c) 1 ∅ 0 ∗ allow true (dst true c) 0 ∗ allow false (dst false c) 0) -∗ Q ⟨⟩))
      ⊢ WP c (semWaitWord barS 2#32) Q := by
  have hp : bigSep ((ringRd m).duties (cell .bar c) 0 \ ∅) (fun d => (ringRd m).payload (cell .bar c) 0 d)
      = iprop(allow false (dst false c) 0 ∗ allow true (dst true c) 0) := by
    rw [Finset.sdiff_empty, duties_cell, if_pos (by decide), show Finset.range (width .bar) = {0, 1} from rfl, bigSep_insert (by decide), bigSep_singleton,
      payload_cell, payload_cell]
    rfl
  iintro ⟨#Hctx, HO, Hc, Hat, Hk⟩
  iapply (op_waitRest m K c .bar (w := .semWait barS (2#32).toNat) (n := 2) (fun Q => wpE_semWait_eq 𝒱₀ (c : Thread nD τ) none Set.univ Q)
    (r := 0) (q := 0) (i := 0) (b := 1) (T := ∅) (by decide) (by decide) (by decide) (by decide) hO Q)
  isplitr; · iexact Hctx
  isplitl [HO]; · iexact HO
  isplitl [Hc]; · iexact Hc
  isplitl [Hat]; · iexact Hat
  iintro ⟨HO, Hat, -, Hp⟩
  ihave Hp' := (Entails.of_eq hp) $$ Hp
  icases Hp' with ⟨Hf, Ht⟩
  iapply Hk
  isplitl [HO]; · iexact HO
  isplitl [Hat]; · iexact Hat
  isplitl [Ht] <;> iassumption

/-- Where the waits for credits stand after `t` of them: at least `t` credits are in hand, which ones is not known. -/
def credAt (δ : Bool) (c : Dev nD) (t : ℕ) : sProp 𝕄 :=
  iprop(∃ T : Finset ℕ, ⌜T ⊆ Finset.range 14 ∧ t ≤ T.card⌝ ∗ atPos ER (cell (.cred δ) c) 0 T t ∗ bigSep T (fun k => credPay δ (dst δ c) k))

/-- Among `t + 1` credits there is one from step `t` or later, which is leave for step `t + 1`. -/
theorem credits_allow (δ : Bool) (d : Dev nD) {T : Finset ℕ} {t : ℕ} (h : t + 1 ≤ T.card) :
    bigSep T (fun k => credPay δ d k) ⊢ (allow δ d (t + 1) : sProp 𝕄) := by
  obtain ⟨k, hk, hle⟩ : ∃ k ∈ T, t ≤ k := by
    by_contra hn
    have hsub : T ⊆ Finset.range t := fun k hk => Finset.mem_range.mpr (Nat.lt_of_not_le fun h' => hn ⟨k, hk, h'⟩)
    have := Finset.card_le_card hsub
    rw [Finset.card_range] at this
    omega
  exact (bigSep_elim (Φ := fun k => credPay δ d k) hk).trans (credPay_allow δ d (by omega))

/-- A credit cell has fourteen duties in its one round. -/
theorem duties_cred (δ : Bool) (c : Dev nD) : (ringRd m).duties (cell (.cred δ) c) 0 = Finset.range 14 := by
  rw [duties_cell, if_pos (by exact Nat.one_pos)]; rfl

/-- A wait for one credit, other than the last. -/
theorem op_waitCredit (δ : Bool) (c : Dev nD) {t : ℕ} (ht : t < 14) {O : CellTallies nD τ sig ℕ} (hO : Above (t + 2) O) (Q : PUnit → sProp 𝕄) :
    iprop(ctx m K ∗ owesW c O ∗ cred (tallyAt (cell (.cred δ) c) t 1) ∗ credAt δ c t
        ∗ ((owesW c O ∗ credAt δ c (t + 1) ∗ allow δ (dst δ c) (t + 1)) -∗ Q ⟨⟩))
      ⊢ WP c (semWaitWord (credS δ) 1#32) Q := by
  have hexp : (ringRd m).expect (cell (.cred δ) c) 0 = 14 := (expect_cell m (.cred δ) c 0 (by exact Nat.one_pos)).trans rfl
  simp only [semWaitWord, Prog.lift]
  iintro ⟨#Hctx, HO, Hc, Hat, Hk⟩
  unfold owesW credAt
  icases HO with ⟨%W, HO⟩
  icases Hat with ⟨%T, %hT, Hat, #HT⟩
  iapply (Rounds.wp_wait 𝒱₀ ER (ringRd m) (c : Thread nD τ) none (κ := K.cells (c, .cred δ)) (sm := csem (.cred δ)) (k' := 1)
      (fun Q => wpE_semWait_eq 𝒱₀ (c : Thread nD τ) none Set.univ Q) (Set.mem_univ _) (cr := Finsupp.single t 1) (O := O) (W := W)
      {(csem (.cred δ), t)} (R := 0) (m := t) (T := T) (by rw [Util.total_single]) (by
        intro x hx
        obtain ⟨i, hi, rfl⟩ := Finset.mem_image.mp hx
        rw [Finset.mem_singleton.mp (Finsupp.support_single_subset hi)]
        exact Finset.mem_singleton_self _)) $$ [Hc HO Hat]
  · isplitr; · iapply (ctx_cell m K (.cred δ) c); iexact Hctx
    isplitl [Hc]; · iexact Hc
    isplitl [HO]; · iexact HO
    isplitr
    · iapply (ctx_mayWait m K (.cred δ) c (i := t) (b := t + 2) (by omega) (by exact le_refl _) hO); iexact Hctx
    iexact Hat
  iintro %S ⟨%hS, HO, Hat, Hp⟩
  rw [duties_cred, hexp] at hS
  have hcard : t + 1 ≤ S.card := by
    have h1 := Finset.card_sdiff_add_card_eq_card hS.2.1
    rw [Finset.card_range] at h1
    have h2 := hS.2.2
    omega
  have hall : bigSep S (fun k => credPay δ (dst δ c) k) = iprop(bigSep (S \ T) (fun k => credPay δ (dst δ c) k) ∗ bigSep T (fun k => (credPay δ (dst δ c) k : sProp 𝕄))) := by
    conv_lhs => rw [← Finset.sdiff_union_of_subset hS.1]
    exact bigSep_union Finset.sdiff_disjoint
  ihave Hp' := (Entails.of_eq (bigSep_congr (s := S \ T) fun k _ => payload_cell m (.cred δ) c 0 k)) $$ Hp
  ihave #HS := (Entails.of_eq hall.symm) $$ [Hp']
  · isplitl [Hp']; · iexact Hp'
    iexact HT
  rw [wp_ret]; imodintro
  iapply Hk
  isplitl [HO]; · iexists _; iexact HO
  isplitl [Hat]
  · iexists S
    isplitr; · ipureintro; exact ⟨hS.2.1, hcard⟩
    isplitl [Hat]; · iexact Hat
    iexact HS
  · iapply (credits_allow δ (dst δ c) hcard); iexact HS

end Cert.RingProof

end
-- ==== Proof.Moves.lean ====
/-
# The transfers, and the reads and writes of the buffers

One lemma per kind of statement, as in `Ops`: a direction `δ`, a step `s`, the slot `j` sent from and the slot `j'` received into.
-/
module

public import proofs.«01_k».proof.Proof.Ops

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Names)

/-! ## The last wait for a credit -/

/-- The last credit: nothing is left to come on the cell, and the last step has leave. -/
theorem op_waitLastCredit (δ : Bool) (c : Dev nD) {O : CellTallies nD τ sig ℕ} (hO : Above 15 O) (Q : PUnit → sProp 𝕄) :
    iprop(ctx m K ∗ owesW c O ∗ cred (tallyAt (cell (.cred δ) c) 13 1) ∗ credAt δ c 13
        ∗ ((owesW c O ∗ atPos ER (cell (.cred δ) c) 1 ∅ 0 ∗ allow δ (dst δ c) 14) -∗ Q ⟨⟩))
      ⊢ WP c (semWaitWord (credS δ) 1#32) Q := by
  iintro ⟨#Hctx, HO, Hc, Hat, Hk⟩
  unfold credAt
  icases Hat with ⟨%T, %hT, Hat, #HT⟩
  iapply (op_waitRest m K c (.cred δ) (w := .semWait (credS δ) (1#32).toNat) (n := 1) (fun Q => wpE_semWait_eq 𝒱₀ (c : Thread nD τ) none Set.univ Q)
    (r := 0) (q := 13) (i := 13) (b := 15) (T := T) (by exact Nat.one_pos) (by rfl) (by decide) (by exact le_refl _) hO Q)
  isplitr; · iexact Hctx
  isplitl [HO]; · iexact HO
  isplitl [Hc]; · iexact Hc
  isplitl [Hat]; · iexact Hat
  iintro ⟨HO, Hat, -, Hp⟩
  have hall : iprop(bigSep ((ringRd m).duties (cell (.cred δ) c) 0 \ T) (fun d => (ringRd m).payload (cell (.cred δ) c) 0 d)
      ∗ bigSep T (fun k => (credPay δ (dst δ c) k : sProp 𝕄))) = bigSep (Finset.range 14) (fun k => (credPay δ (dst δ c) k : sProp 𝕄)) := by
    rw [duties_cred]
    conv_rhs => rw [← Finset.sdiff_union_of_subset hT.1]
    rw [bigSep_union Finset.sdiff_disjoint, bigSep_congr (s := Finset.range 14 \ T) fun k _ => payload_cell m (.cred δ) c 0 k]
    rfl
  ihave #HS := (Entails.of_eq hall) $$ [Hp]
  · isplitl [Hp]; · iexact Hp
    iexact HT
  iapply Hk
  isplitl [HO]; · iexact HO
  isplitl [Hat]; · iexact Hat
  iapply (credits_allow δ (dst δ c) (T := Finset.range 14) (t := 13) (by decide)); iexact HS

/-! ## The transfers -/

/-- Start the transfer of step `s`: the slot and what it holds leave, the right to have them read out and the tally of the arrival are used. -/
theorem op_send (δ : Bool) (c : Dev nD) {s : ℕ} (hs : s < 15) {j j' : Fin 2} (hj : j = slotOf s) (hj' : j' = slotOf (s + 1))
    {h₁ : (slotM δ j).view.WordExact} {h₂ : (slotM δ j').view.WordExact}
    {h₃ : DmaTarget.Typed .vmem (.dma (semAt (recvS δ) j')) (.remote (Dev.tc (dst δ c) : Thread nD τ) (slotM δ j') (.dma (semAt (sendS δ) j)))}
    {O₁ O : CellTallies nD τ sig ℕ} (hO : O₁ = O + tallyAt (cell (.recv δ j') (dst δ c)) s N) (Q : PUnit → sProp 𝕄) :
    iprop(ctx m K ∗ owesW c O₁ ∗ holds δ j c (acc m δ s c) ∗ allow δ (dst δ c) s ∗ Release.writeTok ES (dst δ c, δ, j') (s / 2 + 1)
        ∗ dutyTok ER (cell (.send δ j) c) (s / 2) 0 ∗ reached ER (cell (.send δ j) c) (s / 2)
        ∗ dutyTok ER (cell (.recv δ j') (dst δ c)) (s / 2) 0
        ∗ ((owesW c O ∗ cred (tallyAt (cell (.send δ j) c) 0 N)) -∗ Q ⟨⟩))
      ⊢ WP c (Prog.lift (.enqueueDma (slotM δ j) (.remote (Dev.tc (dst δ c)) (slotM δ j') (.dma (semAt (sendS δ) j))) (.dma (semAt (recvS δ) j')) h₁ h₂ h₃)) Q := by
  have hr₁ : s / 2 < rounds (.send δ j) := by subst hj; show s / 2 < 8 - s % 2; omega
  have hr₂ : s / 2 < rounds (.recv δ j') := by subst hj'; show s / 2 < 7 + (s + 1) % 2; omega
  have hstep : 2 * (s / 2) + (1 - j'.val) = s := by subst hj'; show 2 * (s / 2) + (1 - (s + 1) % 2) = s; omega
  have hpay₁ : (ringRd m).payload (cell (.send δ j) c) (s / 2) 0 = slotRes (c, δ, j) := payload_cell m (.send δ j) c (s / 2) 0
  have hpay₂ : (ringRd m).payload (cell (.recv δ j') (dst δ c)) (s / 2) 0 = holds δ j' (dst δ c) (acc m δ s c) := by
    rw [payload_cell]; show holds δ j' (dst δ c) (acc m δ (2 * (s / 2) + (1 - j'.val)) (src δ (dst δ c))) = _
    rw [hstep, src_dst]
  simp only [Prog.lift]
  iintro ⟨#Hctx, HO, Hsrc, Hall, Hwt, Ht₁, Hr₁, Ht₂, Hk⟩
  unfold owesW allow holds
  rw [← hj']
  icases HO with ⟨%W, HO⟩
  icases Hall with ⟨#Hrel, #Hr₂⟩
  icases Hsrc with ⟨%fs, %hfs, Hsrc⟩
  imod (Release.slot_take ES (k := (dst δ c, δ, j')) (S := slotRes (dst δ c, δ, j')) (Set.mem_univ (K.slots (dst δ c, δ, j'))) (s / 2 + 1)) $$ [Hwt] with Hdst
  · isplitr; · iapply (ctx_slot m K (dst δ c, δ, j')); iexact Hctx
    isplitr; · iexact Hrel
    iexact Hwt
  unfold slotRes Release.slot
  icases Hdst with ⟨%fd, Hdst⟩
  iapply (Rounds.wp_send_pointsTo 𝒱₀ ER (ringRd m) (c : Thread nD τ) none (κ₁ := K.cells (c, .send δ j)) (κ₂ := K.cells (dst δ c, .recv δ j'))
      (r₁ := s / 2) (r₂ := s / 2) (d₁ := 0) (d₂ := 0) (fs := fs) (fd := fd)
      (duty_mem m (k := .send δ j) hr₁ (by exact Nat.one_pos)) (duty_mem m (k := .recv δ j') hr₂ (by exact Nat.one_pos))
      s 0 N (slot_credit δ j') (amount_cell m (.send δ j) c (s / 2) 0) (amount_cell m (.recv δ j') (dst δ c) (s / 2) 0) O hO (W := W)
      (by
        show _ ⊢ (ringRd m).payload (cell (.send δ j) c) (s / 2) 0
        rw [hpay₁]; unfold slotRes Release.slot
        iintro H; iexists fs; iexact H)
      (by
        show _ ⊢ (ringRd m).payload (cell (.recv δ j') (dst δ c)) (s / 2) 0
        rw [hpay₂]; unfold holds
        iintro H; iexists _
        isplitr; · ipureintro; exact (slot_land δ j j' fs fd).trans hfs
        iexact H)) $$ [HO Hsrc Hdst Ht₁ Hr₁ Ht₂]
  · isplitr; · iapply (ctx_cell m K (.send δ j) c); iexact Hctx
    isplitr; · iapply (ctx_cell m K (.recv δ j') (dst δ c)); iexact Hctx
    isplitl [Hsrc]; · iexact Hsrc
    isplitl [Hdst]; · iexact Hdst
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]; imodintro
  iapply Hk
  isplitl [HO]; · iexists W; iexact HO
  iexact Hc

/-- Wait until the slot sent from has been read out: it comes back. -/
theorem op_waitSend (δ : Bool) (c : Dev nD) {s : ℕ} (hs : s < 15) {j j' : Fin 2} (hj : j = slotOf s)
    {h₁ : (slotM δ j').view.WordExact} {h₂ : (slotM δ j).view.WordExact}
    {O : CellTallies nD τ sig ℕ} (hO : Above 0 O) (Q : PUnit → sProp 𝕄) :
    iprop(ctx m K ∗ owesW c O ∗ cred (tallyAt (cell (.send δ j) c) 0 N) ∗ atPos ER (cell (.send δ j) c) (s / 2) ∅ 0
        ∗ ((owesW c O ∗ atPos ER (cell (.send δ j) c) (s / 2 + 1) ∅ 0 ∗ reached ER (cell (.send δ j) c) (s / 2 + 1) ∗ slotRes (c, δ, j)) -∗ Q ⟨⟩))
      ⊢ WP c (Prog.lift (.waitDma2 (semAt (sendS δ) j) (slotM δ j') (slotM δ j) h₁ h₂)) Q := by
  have hr : s / 2 < rounds (.send δ j) := by subst hj; show s / 2 < 8 - s % 2; omega
  have hp : bigSep ((ringRd m).duties (cell (.send δ j) c) (s / 2) \ ∅) (fun d => (ringRd m).payload (cell (.send δ j) c) (s / 2) d)
      = slotRes (c, δ, j) := rest_one m (.send δ j) c (s / 2) hr rfl
  iintro ⟨#Hctx, HO, Hc, Hat, Hk⟩
  iapply (op_waitRest m K c (.send δ j) (w := .waitDma2 (semAt (sendS δ) j) (slotM δ j') (slotM δ j) h₁ h₂) (n := N)
    (fun Q => (wpE_waitDma2_eq 𝒱₀ (c : Thread nD τ) none Set.univ Q).trans (by rw [slot_credit δ j]))
    (r := s / 2) (q := 0) (i := 0) (b := 0) (T := ∅) hr (by show 0 + N = 1 * N; omega) (by decide) (by exact le_refl _) hO Q)
  isplitr; · iexact Hctx
  isplitl [HO]; · iexact HO
  isplitl [Hc]; · iexact Hc
  isplitl [Hat]; · iexact Hat
  iintro ⟨HO, Hat, Hr, Hp⟩
  ihave Hp' := (Entails.of_eq hp) $$ Hp
  iapply Hk
  isplitl [HO]; · iexact HO
  isplitl [Hat]; · iexact Hat
  isplitl [Hr]; · iexact Hr
  iexact Hp'

/-- Wait until the slot received into has been filled: it holds what the neighbour sent. -/
theorem op_waitRecv (δ : Bool) (c : Dev nD) {s : ℕ} (hs : s < 15) {j j' : Fin 2} (hj' : j' = slotOf (s + 1))
    {h₁ : (slotM δ j).view.WordExact} {h₂ : (slotM δ j').view.WordExact}
    {O : CellTallies nD τ sig ℕ} (hO : Above (s + 2) O) (Q : PUnit → sProp 𝕄) :
    iprop(ctx m K ∗ owesW c O ∗ cred (tallyAt (cell (.recv δ j') c) s N) ∗ atPos ER (cell (.recv δ j') c) (s / 2) ∅ 0
        ∗ ((owesW c O ∗ atPos ER (cell (.recv δ j') c) (s / 2 + 1) ∅ 0 ∗ reached ER (cell (.recv δ j') c) (s / 2 + 1)
            ∗ holds δ j' c (acc m δ s (src δ c))) -∗ Q ⟨⟩))
      ⊢ WP c (Prog.lift (.waitDma2 (semAt (recvS δ) j') (slotM δ j) (slotM δ j') h₁ h₂)) Q := by
  have hr : s / 2 < rounds (.recv δ j') := by subst hj'; show s / 2 < 7 + (s + 1) % 2; omega
  have hstep : 2 * (s / 2) + (1 - j'.val) = s := by subst hj'; show 2 * (s / 2) + (1 - (s + 1) % 2) = s; omega
  have hp : bigSep ((ringRd m).duties (cell (.recv δ j') c) (s / 2) \ ∅) (fun d => (ringRd m).payload (cell (.recv δ j') c) (s / 2) d)
      = holds δ j' c (acc m δ s (src δ c)) := by
    rw [rest_one m (.recv δ j') c (s / 2) hr rfl]
    show holds δ j' c (acc m δ (2 * (s / 2) + (1 - j'.val)) (src δ c)) = _
    rw [hstep]
  iintro ⟨#Hctx, HO, Hc, Hat, Hk⟩
  iapply (op_waitRest m K c (.recv δ j') (w := .waitDma2 (semAt (recvS δ) j') (slotM δ j) (slotM δ j') h₁ h₂) (n := N)
    (fun Q => (wpE_waitDma2_eq 𝒱₀ (c : Thread nD τ) none Set.univ Q).trans (by rw [slot_credit δ j']))
    (r := s / 2) (q := 0) (i := s) (b := s + 2) (T := ∅) hr (by show 0 + N = 1 * N; omega) (by omega) (by exact le_refl _) hO Q)
  isplitr; · iexact Hctx
  isplitl [HO]; · iexact HO
  isplitl [Hc]; · iexact Hc
  isplitl [Hat]; · iexact Hat
  iintro ⟨HO, Hat, Hr, Hp⟩
  ihave Hp' := (Entails.of_eq hp) $$ Hp
  iapply Hk
  isplitl [HO]; · iexact HO
  isplitl [Hat]; · iexact Hat
  isplitl [Hr]; · iexact Hr
  iexact Hp'

/-! ## Reads and writes -/

/-- `x` and `w` of device `c`, whole. -/
def xPts (c : Dev nD) : sProp 𝕄 := (xM.view.loc (c : Thread nD τ)) ↦[xM.view.set]{fullShare} xstg m c
def wPts (c : Dev nD) : sProp 𝕄 := (wM.view.loc (c : Thread nD τ)) ↦[wM.view.set]{fullShare} wstg m c

/-- Reading a block of `x` and a direction's columns of `w`. -/
theorem op_readXW (δ : Bool) (c : Dev nD) (r : Fin 2 → ℕ) (h : ∀ a, r a + S256x256.size a ≤ S4096x256.size a) (Q : _ → sProp 𝕄) :
    iprop(xPts m c ∗ wPts m c
        ∗ ((xPts m c ∗ wPts m c) -∗ Q (xM.view.readAt (Elt F) (Rect.unit (s := S4096x256) r S256x256.size h).toLoadRect (xstg m c), wCols m δ c)))
      ⊢ WP c (readXW (F := F) δ r h) Q := by
  unfold xPts wPts wCols
  iintro ⟨Hx, Hw, Hk⟩
  rw [WP_bind]
  unfold WP
  simp only [Prog.lift]
  iapply (wp_load 𝒱₀ (c : Thread nD τ) none Set.univ (m := xM) (S := xM.view.set) (View.setOn_subset_set _ _)) $$ Hx
  iintro Hx
  rw [wp_ret]; imodintro
  rw [wp_bind]
  iapply (wp_load 𝒱₀ (c : Thread nD τ) none Set.univ (m := wM) (S := wM.view.set) (View.setOn_subset_set _ _)) $$ Hw
  iintro Hw
  rw [wp_ret]; imodintro
  rw [Prog.pure_eq_ret, wp_ret]; imodintro
  iapply Hk
  isplitl [Hx]; · iexact Hx
  iexact Hw

/-- Reading a slot. -/
theorem op_readSlot (δ : Bool) (j : Fin 2) (c : Dev nD) (v : Vec F S1x256x4096 .bf16) (Q : _ → sProp 𝕄) :
    iprop(holds δ j c v ∗ (holds δ j c v -∗ Q v)) ⊢ WP c (readSlot (F := F) δ j) Q := by
  unfold holds
  simp only [Prog.lift]
  iintro ⟨⟨%f, %hf, H⟩, Hk⟩
  iapply (wp_load_rect 𝒱₀ (c : Thread nD τ) none Set.univ (m := bufM δ) (r := slotR j) (slot_load_sub δ j)) $$ H
  iintro H
  rw [wp_ret]; imodintro
  rw [show ((bufM δ).access (slotR j)).read (Elt F) f = v from hf]
  iapply Hk
  iexists f
  isplitr; · ipureintro; exact hf
  iexact H

/-- Writing a slot, whatever it held. -/
theorem op_writeSlot (δ : Bool) (j : Fin 2) (c : Dev nD) (v : Vec F S1x256x4096 .bf16) (Q : PUnit → sProp 𝕄) :
    iprop(slotRes (c, δ, j) ∗ (holds δ j c v -∗ Q ⟨⟩)) ⊢ WP c (writeSlot (F := F) δ j v) Q := by
  unfold slotRes Release.slot holds
  simp only [Prog.lift, Prog.bind_op, Prog.bind_ret]
  iintro ⟨⟨%f, H⟩, Hk⟩
  iapply (wp_load_rect 𝒱₀ (c : Thread nD τ) none Set.univ (m := bufM δ) (r := slotR j) (slot_load_sub δ j)) $$ H
  iintro H
  iapply (wp_store 𝒱₀ (c : Thread nD τ) none Set.univ (m := bufM δ) (r := slotR j) (Mk := Finset.univ) (slot_store_sub δ j)) $$ H
  iintro H
  rw [wp_ret]; imodintro
  iapply Hk
  iexists _
  isplitr; · ipureintro; exact slot_stored δ j f v
  iexact H

/-- Writing a direction's half of the result. -/
theorem op_writeOut (δ : Bool) (c : Dev nD) (v : Vec F S256x4096 .f32) (f : Buf (Elt F) (oM.view.loc (c : Thread nD τ))) (Q : PUnit → sProp 𝕄) :
    iprop((oM.view.loc (c : Thread nD τ) ↦[oM.view.set]{fullShare} f)
        ∗ ((oM.view.loc (c : Thread nD τ) ↦[oM.view.set]{fullShare} ((oM.access (colR δ)).write (Elt F) f v Finset.univ)) -∗ Q ⟨⟩))
      ⊢ WP c (writeOut (F := F) δ v) Q := by
  simp only [Prog.lift, Prog.bind_op, Prog.bind_ret]
  iintro ⟨H, Hk⟩
  iapply (wp_load 𝒱₀ (c : Thread nD τ) none Set.univ (m := oM) (S := oM.view.set) (View.setOn_subset_set _ _)) $$ H
  iintro H
  iapply (wp_store 𝒱₀ (c : Thread nD τ) none Set.univ (m := oM) (r := colR δ) (Mk := Finset.univ) (S := oM.view.set) (by
      have h : oM.view.set = Finset.univ := View.set_whole _
      rw [h]; exact Finset.subset_univ _)) $$ H
  iintro H
  rw [wp_ret]; imodintro
  iapply Hk
  iexact H

end Cert.RingProof

end
-- ==== Proof.Direction.lean ====
/-
# One direction of the ring

What a device holds of one direction between two steps, and what each statement of a step makes of it. At step `s` the direction
sends from slot `a` (`s`'s parity) and receives into slot `b`; `p` transfers have been received into `b`, and `q` sent from it.
-/
module

public import proofs.«01_k».proof.Proof.Moves

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Names)

/-! ## The state -/

/-- Where a cell stands. -/
def pos (k : Cell) (c : Dev nD) (r : ℕ) : sProp 𝕄 := iprop(atPos ER (cell k c) r ∅ 0 ∗ reached ER (cell k c) r)

/-- Between two steps: slot `b` is deposited and slot `a` is not; the four cells. -/
def ring (δ : Bool) (c : Dev nD) (a b : Fin 2) (p q : ℕ) : sProp 𝕄 :=
  iprop(Release.readerAt ES (c, δ, b) (p + 1) ∗ Release.released ES (c, δ, b) (p + 1) ∗ Release.readerAt ES (c, δ, a) q
    ∗ pos (.recv δ b) c p ∗ pos (.recv δ a) c q ∗ pos (.send δ a) c p ∗ pos (.send δ b) c q)

/-- After the slot sent from has come back. -/
def back (δ : Bool) (c : Dev nD) (a b : Fin 2) (p q : ℕ) : sProp 𝕄 :=
  iprop(Release.readerAt ES (c, δ, b) (p + 1) ∗ Release.released ES (c, δ, b) (p + 1) ∗ Release.readerAt ES (c, δ, a) q
    ∗ pos (.recv δ b) c p ∗ pos (.recv δ a) c q ∗ pos (.send δ a) c (p + 1) ∗ pos (.send δ b) c q)

/-- After slot `a` has been deposited in its turn. -/
def given (δ : Bool) (c : Dev nD) (a b : Fin 2) (p q : ℕ) : sProp 𝕄 :=
  iprop(Release.readerAt ES (c, δ, b) (p + 1) ∗ Release.readerAt ES (c, δ, a) (q + 1) ∗ Release.released ES (c, δ, a) (q + 1)
    ∗ pos (.recv δ b) c p ∗ pos (.recv δ a) c q ∗ pos (.send δ a) c (p + 1) ∗ pos (.send δ b) c q)

/-- What the transfer of step `i` uses up, and the credit of the arrival of that step. -/
def sendTok (δ : Bool) (c : Dev nD) (i : ℕ) : sProp 𝕄 :=
  iprop(Release.writeTok ES (dst δ c, δ, slotOf (i + 1)) (i / 2 + 1) ∗ dutyTok ER (cell (.send δ (slotOf i)) c) (i / 2) 0
    ∗ dutyTok ER (cell (.recv δ (slotOf (i + 1))) (dst δ c)) (i / 2) 0 ∗ cred (tallyAt (cell (.recv δ (slotOf (i + 1))) c) i N))

/-- The same for the steps from `s` on. -/
def sendToks (δ : Bool) (c : Dev nD) (s : ℕ) : sProp 𝕄 := bigSep (Finset.Ico s 15) (fun i => sendTok δ c i)
/-- The tokens of the credits to give, from step `s` on. -/
def credToks (δ : Bool) (c : Dev nD) (s : ℕ) : sProp 𝕄 := bigSep (Finset.Ico s 14) (fun i => dutyTok ER (cell (.cred δ) (src δ c)) 0 i)
/-- The credits still to take after `t` of them, and where their cell stands. -/
def credits (δ : Bool) (c : Dev nD) (t : ℕ) : sProp 𝕄 :=
  iprop(credAt δ c t ∗ bigSep (Finset.Ico t 14) (fun i => cred (tallyAt (cell (.cred δ) c) i 1)))

/-- The first of the steps that are left, apart from the rest. -/
theorem bigSep_Ico_step {s n : ℕ} (h : s < n) (Φ : ℕ → sProp 𝕄) : bigSep (Finset.Ico s n) Φ = iprop(Φ s ∗ bigSep (Finset.Ico (s + 1) n) Φ) := by
  rw [← Finset.insert_Ico_succ_left_eq_Ico h, bigSep_insert (by simp)]; rfl

/-- Slots alternate. -/
theorem slotOf_two (s : ℕ) : slotOf (s + 1 + 1) = slotOf s := Fin.ext (by show (s + 1 + 1) % 2 = s % 2; omega)

/-- The ring's state after a step, with the slots named as the next step names them. -/
theorem ring_next (δ : Bool) (c : Dev nD) (s : ℕ) :
    ring δ c (slotOf (s + 1)) (slotOf (s + 1 + 1)) ((s + 1) / 2) ((s + 1 + 1) / 2)
      = (ring δ c (slotOf (s + 1)) (slotOf s) ((s + 1) / 2) (s / 2 + 1) : sProp 𝕄) := by
  rw [slotOf_two, show (s + 1 + 1) / 2 = s / 2 + 1 by omega]

/-- What a device holds of a direction when step `s` begins. -/
def dirAt (δ : Bool) (s : ℕ) (c : Dev nD) : sProp 𝕄 :=
  iprop(holds δ (slotOf s) c (acc m δ s c) ∗ ring δ c (slotOf s) (slotOf (s + 1)) (s / 2) ((s + 1) / 2) ∗ sendToks δ c s ∗ credToks δ c s)

/-- The same while the transfer of step `s` is under way. -/
def dirSent (δ : Bool) (s : ℕ) (c : Dev nD) : sProp 𝕄 :=
  iprop(cred (tallyAt (cell (.send δ (slotOf s)) c) 0 N) ∗ cred (tallyAt (cell (.recv δ (slotOf (s + 1))) c) s N)
    ∗ ring δ c (slotOf s) (slotOf (s + 1)) (s / 2) ((s + 1) / 2) ∗ sendToks δ c (s + 1) ∗ credToks δ c s)

/-- The same once the slot sent from is back. -/
def dirBack (δ : Bool) (s : ℕ) (c : Dev nD) : sProp 𝕄 :=
  iprop(slotRes (c, δ, slotOf s) ∗ cred (tallyAt (cell (.recv δ (slotOf (s + 1))) c) s N)
    ∗ back δ c (slotOf s) (slotOf (s + 1)) (s / 2) ((s + 1) / 2) ∗ sendToks δ c (s + 1) ∗ credToks δ c s)

/-- The same once that slot is deposited and the credit given. -/
def dirGiven (δ : Bool) (s : ℕ) (c : Dev nD) : sProp 𝕄 :=
  iprop(cred (tallyAt (cell (.recv δ (slotOf (s + 1))) c) s N)
    ∗ given δ c (slotOf s) (slotOf (s + 1)) (s / 2) ((s + 1) / 2) ∗ sendToks δ c (s + 1) ∗ credToks δ c (s + 1))

/-- The same once the other slot is filled. -/
def dirArrived (δ : Bool) (s : ℕ) (c : Dev nD) : sProp 𝕄 :=
  iprop(holds δ (slotOf (s + 1)) c (acc m δ s (src δ c))
    ∗ ring δ c (slotOf (s + 1)) (slotOf (s + 1 + 1)) ((s + 1) / 2) ((s + 1 + 1) / 2) ∗ sendToks δ c (s + 1) ∗ credToks δ c (s + 1))

/-! ## The statements -/

/-- The transfer of step `s` starts. -/
theorem dir_send (δ : Bool) (c : Dev nD) {s : ℕ} (hs : s < 15) {j : Fin 2} (hj : j = slotOf s) (ho : other j = slotOf (s + 1))
    {O₁ O : CellTallies nD τ sig ℕ} (hO : O₁ = O + tallyAt (cell (.recv δ (slotOf (s + 1))) (dst δ c)) s N) (Q : PUnit → sProp 𝕄) :
    iprop(ctx m K ∗ owesW c O₁ ∗ dirAt m δ s c ∗ allow δ (dst δ c) s ∗ ((owesW c O ∗ dirSent δ s c) -∗ Q ⟨⟩))
      ⊢ WP c (startSend δ j (dst δ c)) Q := by
  unfold dirAt dirSent sendToks
  rw [bigSep_Ico_step hs]
  unfold sendTok
  have hring : ring δ c (slotOf s) (slotOf (s + 1)) (s / 2) ((s + 1) / 2) ⊢ (iprop(reached ER (cell (.send δ (slotOf s)) c) (s / 2)
      ∗ ring δ c (slotOf s) (slotOf (s + 1)) (s / 2) ((s + 1) / 2)) : sProp 𝕄) := by
    unfold ring pos
    iintro ⟨H1, H2, H3, H4, H5, ⟨H6, #H7⟩, H8⟩
    isplitr; · iexact H7
    isplitl [H1]; · iexact H1
    isplitl [H2]; · iexact H2
    isplitl [H3]; · iexact H3
    isplitl [H4]; · iexact H4
    isplitl [H5]; · iexact H5
    isplitl [H6]
    · isplitl [H6]; · iexact H6
      iexact H7
    iexact H8
  iintro ⟨#Hctx, HO, ⟨Hh, Hring, ⟨⟨Hw, Hs, Hr, Hc⟩, Htoks⟩, Hct⟩, #Ha, Hk⟩
  ihave Hring' := hring $$ Hring
  icases Hring' with ⟨#Hreach, Hring⟩
  rw [← ho] at hO
  rw [← ho, ← hj]
  iapply (op_send m K δ c hs hj ho hO Q)
  isplitr; · iexact Hctx
  isplitl [HO]; · iexact HO
  isplitl [Hh]; · iexact Hh
  isplitr; · iexact Ha
  isplitl [Hw]; · iexact Hw
  isplitl [Hs]; · iexact Hs
  isplitr; · iexact Hreach
  isplitl [Hr]; · iexact Hr
  iintro ⟨HO, Hsc⟩
  iapply Hk
  isplitl [HO]; · iexact HO
  isplitl [Hsc]; · iexact Hsc
  isplitl [Hc]; · iexact Hc
  isplitl [Hring]; · iexact Hring
  isplitl [Htoks]; · iexact Htoks
  iexact Hct

/-- The slot sent from comes back. -/
theorem dir_waitSend (δ : Bool) (c : Dev nD) {s : ℕ} (hs : s < 15) {j : Fin 2} (hj : j = slotOf s)
    {O : CellTallies nD τ sig ℕ} (hO : Above 0 O) (Q : PUnit → sProp 𝕄) :
    iprop(ctx m K ∗ owesW c O ∗ dirSent δ s c ∗ ((owesW c O ∗ dirBack δ s c) -∗ Q ⟨⟩)) ⊢ WP c (waitSend δ j) Q := by
  unfold dirSent dirBack ring back
  rw [← hj]
  iintro ⟨#Hctx, HO, ⟨Hsc, Hc, ⟨H1, H2, H3, H4, H5, H6, H8⟩, Htoks, Hct⟩, Hk⟩
  ihave H6 := (Entails.of_eq (show pos (.send δ j) c (s / 2) = (iprop(atPos ER (cell (.send δ j) c) (s / 2) ∅ 0 ∗ reached ER (cell (.send δ j) c) (s / 2)) : sProp 𝕄) from rfl)) $$ H6
  icases H6 with ⟨H6, -⟩
  iapply (op_waitSend m K δ c hs hj hO Q)
  isplitr; · iexact Hctx
  isplitl [HO]; · iexact HO
  isplitl [Hsc]; · iexact Hsc
  isplitl [H6]; · iexact H6
  iintro ⟨HO, H6, H7, Hslot⟩
  iapply Hk
  isplitl [HO]; · iexact HO
  isplitl [Hslot]; · iexact Hslot
  isplitl [Hc]; · iexact Hc
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6 H7]
    · unfold pos
      isplitl [H6]; · iexact H6
      iexact H7
    iexact H8
  isplitl [Htoks]; · iexact Htoks
  iexact Hct

/-- The slot sent from is deposited, and the credit of the step given. -/
theorem dir_give (δ : Bool) (c : Dev nD) {s : ℕ} (hs : s < 14)
    {O₁ O : CellTallies nD τ sig ℕ} (hO : O₁ = O + tallyAt (cell (.cred δ) (src δ c)) s 1) (Q : PUnit → sProp 𝕄) :
    iprop(ctx m K ∗ owesW c O₁ ∗ dirBack δ s c ∗ ((owesW c O ∗ dirGiven δ s c) -∗ Q ⟨⟩))
      ⊢ WP c (semSignalWord (src δ c) (credS δ) 1#32) Q := by
  unfold dirBack dirGiven credToks
  rw [bigSep_Ico_step hs]
  unfold back given pos
  iintro ⟨#Hctx, HO, ⟨Hslot, Hc, ⟨H1, #H2, H3, ⟨H4, #H4r⟩, ⟨H5, #H5r⟩, H6, H8⟩, Htoks, ⟨Ht, Hct⟩⟩, Hk⟩
  imod (Release.slot_release ES (k := (c, δ, slotOf s)) (S := slotRes (c, δ, slotOf s)) (Set.mem_univ (K.slots (c, δ, slotOf s)))
    (Release.slot_slot_false (slot_nonempty δ (slotOf s))) ((s + 1) / 2)) $$ [H3 Hslot] with ⟨H3, #Hrel⟩
  · isplitr; · iapply (ctx_slot m K (c, δ, slotOf s)); iexact Hctx
    isplitl [H3]; · iexact H3
    iexact Hslot
  iapply (op_credit m K δ c hs hO Q)
  isplitr; · iexact Hctx
  isplitl [HO]; · iexact HO
  isplitl [Ht]; · iexact Ht
  isplitr
  · unfold credPay allow
    rw [slotOf_two]
    isplitr
    · isplitr; · iexact Hrel
      iexact H5r
    · isplitr; · iexact H2
      iexact H4r
  iintro HO
  iapply Hk
  isplitl [HO]; · iexact HO
  isplitl [Hc]; · iexact Hc
  isplitl [H1 H3 H4 H5 H6 H8]
  · isplitl [H1]; · iexact H1
    isplitl [H3]; · iexact H3
    isplitr; · iexact Hrel
    isplitl [H4]
    · isplitl [H4]; · iexact H4
      iexact H4r
    isplitl [H5]
    · isplitl [H5]; · iexact H5
      iexact H5r
    isplitl [H6]; · iexact H6
    iexact H8
  isplitl [Htoks]; · iexact Htoks
  iexact Hct

/-- The other slot is filled. -/
theorem dir_waitRecv (δ : Bool) (c : Dev nD) {s : ℕ} (hs : s < 15) {j : Fin 2} (ho : other j = slotOf (s + 1))
    {O : CellTallies nD τ sig ℕ} (hO : Above (s + 2) O) (Q : PUnit → sProp 𝕄) :
    iprop(ctx m K ∗ owesW c O ∗ dirGiven δ s c ∗ ((owesW c O ∗ dirArrived m δ s c) -∗ Q ⟨⟩)) ⊢ WP c (waitRecv δ j) Q := by
  unfold dirGiven dirArrived
  rw [ring_next]
  unfold given ring
  rw [← ho]
  iintro ⟨#Hctx, HO, ⟨Hc, ⟨H1, H2, H3, H4, H5, H6, H8⟩, Htoks, Hct⟩, Hk⟩
  ihave H4 := (Entails.of_eq (show pos (.recv δ (other j)) c (s / 2) = (iprop(atPos ER (cell (.recv δ (other j)) c) (s / 2) ∅ 0 ∗ reached ER (cell (.recv δ (other j)) c) (s / 2)) : sProp 𝕄) from rfl)) $$ H4
  icases H4 with ⟨H4, -⟩
  iapply (op_waitRecv m K δ c hs ho hO Q)
  isplitr; · iexact Hctx
  isplitl [HO]; · iexact HO
  isplitl [Hc]; · iexact Hc
  isplitl [H4]; · iexact H4
  iintro ⟨HO, H4, H7, Hh⟩
  iapply Hk
  isplitl [HO]; · iexact HO
  isplitl [Hh]; · iexact Hh
  isplitl [H1 H2 H3 H4 H5 H6 H7 H8]
  · isplitl [H2]; · iexact H2
    isplitl [H3]; · iexact H3
    isplitl [H1]; · iexact H1
    isplitl [H5]; · iexact H5
    isplitl [H4 H7]
    · unfold pos
      isplitl [H4]; · iexact H4
      iexact H7
    isplitl [H8]; · iexact H8
    iexact H6
  isplitl [Htoks]; · iexact Htoks
  iexact Hct

/-- What arrived, plus the step's partial product, is what the next step sends. -/
theorem dir_accumulate (δ : Bool) (c : Dev nD) {s : ℕ} (hs : s < 15) {j : Fin 2} (ho : other j = slotOf (s + 1)) (Q : PUnit → sProp 𝕄) :
    iprop(dirArrived m δ s c ∗ (dirAt m δ (s + 1) c -∗ Q ⟨⟩)) ⊢ WP c (accumulate δ j (part m δ c ⟨s, hs⟩)) Q := by
  have hacc : k0_pay7 (part m δ c ⟨s, hs⟩) (acc m δ s (src δ c)) = acc m δ (s + 1) c := by
    show _ = k0_pay7 (part m δ c (stepIx s)) (acc m δ s (src δ c))
    rw [show stepIx s = ⟨s, hs⟩ from Fin.ext (Nat.mod_eq_of_lt hs)]
  unfold dirArrived dirAt accumulate
  rw [WP_bind, ← ho]
  iintro ⟨⟨Hh, Hrest⟩, Hk⟩
  iapply (op_readSlot δ (other j) c (acc m δ s (src δ c)))
  isplitl [Hh]; · iexact Hh
  iintro Hh
  rw [hacc]
  iapply (op_writeSlot δ (other j) c (acc m δ (s + 1) c))
  isplitl [Hh]; · iapply (holds_forget δ (other j) c); iexact Hh
  iintro Hh
  iapply Hk
  isplitl [Hh]; · iexact Hh
  iexact Hrest

end Cert.RingProof

end
-- ==== Proof.Steps.lean ====
/-
# The steps of the ring

Both directions together: one step, the steps between the first and the last by induction, the last step, the handshake.
-/
module

public import proofs.«01_k».proof.Proof.Direction

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Names)

/-! ## What is owed, statement by statement -/

/-- What is owed, with the next arrival of the one direction apart, -/
theorem due_recv_true (c : Dev nD) {a a' b b' : ℕ} (h : a < 15) :
    due c a a' b b' = due c (a + 1) a' b b' + tallyAt (cell (.recv true (slotOf (a + 1))) (dst true c)) a N := by
  unfold due; rw [recvDue_step true c h]; ac_rfl
/-- of the other, -/
theorem due_recv_false (c : Dev nD) {a a' b b' : ℕ} (h : a' < 15) :
    due c a a' b b' = due c a (a' + 1) b b' + tallyAt (cell (.recv false (slotOf (a' + 1))) (dst false c)) a' N := by
  unfold due; rw [recvDue_step false c h]; ac_rfl
/-- with the next credit of the one direction apart, -/
theorem due_cred_true (c : Dev nD) {a a' b b' : ℕ} (h : b < 14) :
    due c a a' b b' = due c a a' (b + 1) b' + tallyAt (cell (.cred true) (src true c)) b 1 := by
  unfold due; rw [credDue_step true c h]; ac_rfl
/-- and of the other. -/
theorem due_cred_false (c : Dev nD) {a a' b b' : ℕ} (h : b' < 14) :
    due c a a' b b' = due c a a' b (b' + 1) + tallyAt (cell (.cred false) (src false c)) b' 1 := by
  unfold due; rw [credDue_step false c h]; ac_rfl
/-- After the last step nothing is owed. -/
theorem due_end (c : Dev nD) : due c 15 15 14 14 = 0 := by
  unfold due; rw [recvDue_end, recvDue_end, credDue_end, credDue_end, add_zero, add_zero]

/-- What is owed always lies above level 0. -/
theorem above_zero_due (c : Dev nD) (a a' b b' : ℕ) : Above 0 (due c a a' b b') :=
  (above_due c (n := 0) (Nat.zero_le _) (Nat.zero_le _) (Nat.zero_le _) (Nat.zero_le _)).mono (by omega)

/-- The device before is the one that the direction `true` comes from, -/
theorem devL_src (c : Dev nD) : devL c = src true c := devL_eq c
/-- the next one that the direction `false` comes from. -/
theorem devR_src (c : Dev nD) : devR c = src false c := devR_eq c

/-! ## One step -/

/-- Both transfers start, both partial products are computed, both slots come back. -/
theorem exchange_spec (c : Dev nD) {s : ℕ} (hs : s < 15) {j : Fin 2} (hj : j = slotOf s) (ho : other j = slotOf (s + 1)) {b b' : ℕ}
    (Q : _ → sProp 𝕄) :
    iprop(ctx m K ∗ owesW c (due c s s b b') ∗ xPts m c ∗ wPts m c ∗ dirAt m true s c ∗ dirAt m false s c
        ∗ allow true (dst true c) s ∗ allow false (dst false c) s
        ∗ ((owesW c (due c (s + 1) (s + 1) b b') ∗ xPts m c ∗ wPts m c ∗ dirBack true s c ∗ dirBack false s c)
            -∗ Q (part m true c ⟨s, hs⟩, part m false c ⟨s, hs⟩)))
      ⊢ WP c (exchange c ⟨s, hs⟩ j) Q := by
  unfold exchange
  rw [devR_eq, devL_eq]
  iintro ⟨#Hctx, HO, Hx, Hw, Ht, Hf, #Hat, #Haf, Hk⟩
  rw [WP_bind]
  iapply (dir_send m K true c hs hj ho (due_recv_true c hs))
  isplitr; · iexact Hctx
  isplitl [HO]; · iexact HO
  isplitl [Ht]; · iexact Ht
  isplitr; · iexact Hat
  iintro ⟨HO, Ht⟩
  rw [WP_bind]
  iapply (dir_send m K false c hs hj ho (due_recv_false c hs))
  isplitr; · iexact Hctx
  isplitl [HO]; · iexact HO
  isplitl [Hf]; · iexact Hf
  isplitr; · iexact Haf
  iintro ⟨HO, Hf⟩
  rw [WP_bind]
  iapply (op_readXW m true c)
  isplitl [Hx]; · iexact Hx
  isplitl [Hw]; · iexact Hw
  iintro ⟨Hx, Hw⟩
  rw [WP_bind]
  iapply (op_readXW m false c)
  isplitl [Hx]; · iexact Hx
  isplitl [Hw]; · iexact Hw
  iintro ⟨Hx, Hw⟩
  rw [WP_bind]
  iapply (dir_waitSend m K true c hs hj (above_zero_due c _ _ _ _))
  isplitr; · iexact Hctx
  isplitl [HO]; · iexact HO
  isplitl [Ht]; · iexact Ht
  iintro ⟨HO, Ht⟩
  rw [WP_bind]
  iapply (dir_waitSend m K false c hs hj (above_zero_due c _ _ _ _))
  isplitr; · iexact Hctx
  isplitl [HO]; · iexact HO
  isplitl [Hf]; · iexact Hf
  iintro ⟨HO, Hf⟩
  iapply (WP_pure c)
  unfold part xStep
  iapply Hk
  isplitl [HO]; · iexact HO
  isplitl [Hx]; · iexact Hx
  isplitl [Hw]; · iexact Hw
  isplitl [Ht]; · iexact Ht
  iexact Hf

/-- A step before the last, its credits taken. -/
theorem stepRest_spec (c : Dev nD) {s : ℕ} (hs : s < 14) (hs' : s < 15) {j : Fin 2} (hj : j = slotOf s) (ho : other j = slotOf (s + 1))
    (Q : PUnit → sProp 𝕄) :
    iprop(ctx m K ∗ owesW c (due c s s s s) ∗ xPts m c ∗ wPts m c ∗ dirAt m true s c ∗ dirAt m false s c
        ∗ allow true (dst true c) s ∗ allow false (dst false c) s
        ∗ ((owesW c (due c (s + 1) (s + 1) (s + 1) (s + 1)) ∗ xPts m c ∗ wPts m c ∗ dirAt m true (s + 1) c ∗ dirAt m false (s + 1) c) -∗ Q ⟨⟩))
      ⊢ WP c (stepRest c ⟨s, hs'⟩ j) Q := by
  unfold stepRest
  rw [WP_bind]
  iintro ⟨#Hctx, HO, Hx, Hw, Ht, Hf, #Hat, #Haf, Hk⟩
  iapply (exchange_spec m K c hs' hj ho)
  isplitr; · iexact Hctx
  isplitl [HO]; · iexact HO
  isplitl [Hx]; · iexact Hx
  isplitl [Hw]; · iexact Hw
  isplitl [Ht]; · iexact Ht
  isplitl [Hf]; · iexact Hf
  isplitr; · iexact Hat
  isplitr; · iexact Haf
  iintro ⟨HO, Hx, Hw, Ht, Hf⟩
  unfold giveCredits arrivals
  rw [devL_src, devR_src, WP_bind, WP_bind]
  iapply (dir_give m K true c hs (due_cred_true c hs))
  isplitr; · iexact Hctx
  isplitl [HO]; · iexact HO
  isplitl [Ht]; · iexact Ht
  iintro ⟨HO, Ht⟩
  iapply (dir_give m K false c hs (due_cred_false c hs))
  isplitr; · iexact Hctx
  isplitl [HO]; · iexact HO
  isplitl [Hf]; · iexact Hf
  iintro ⟨HO, Hf⟩
  have hab : Above (s + 2) (due c (s + 1) (s + 1) (s + 1) (s + 1)) := above_due c le_rfl le_rfl le_rfl le_rfl
  rw [WP_bind, WP_bind]
  iapply (dir_waitRecv m K true c hs' ho hab)
  isplitr; · iexact Hctx
  isplitl [HO]; · iexact HO
  isplitl [Ht]; · iexact Ht
  iintro ⟨HO, Ht⟩
  iapply (dir_waitRecv m K false c hs' ho hab)
  isplitr; · iexact Hctx
  isplitl [HO]; · iexact HO
  isplitl [Hf]; · iexact Hf
  iintro ⟨HO, Hf⟩
  rw [WP_bind]
  iapply (dir_accumulate m true c hs' ho)
  isplitl [Ht]; · iexact Ht
  iintro Ht
  iapply (dir_accumulate m false c hs' ho)
  isplitl [Hf]; · iexact Hf
  iintro Hf
  iapply Hk
  isplitl [HO]; · iexact HO
  isplitl [Hx]; · iexact Hx
  isplitl [Hw]; · iexact Hw
  isplitl [Ht]; · iexact Ht
  iexact Hf

/-! ## The steps between the first and the last -/

/-- What a device holds before step `t + 1`. -/
def Inv (t : ℕ) (c : Dev nD) : sProp 𝕄 :=
  iprop(owesW c (due c (t + 1) (t + 1) (t + 1) (t + 1)) ∗ xPts m c ∗ wPts m c ∗ dirAt m true (t + 1) c ∗ dirAt m false (t + 1) c
    ∗ credits true c t ∗ credits false c t)

/-- One credit of a direction is taken. -/
theorem dir_take (δ : Bool) (c : Dev nD) {t : ℕ} (ht : t < 14) {O : CellTallies nD τ sig ℕ} (hO : Above (t + 2) O) (Q : PUnit → sProp 𝕄) :
    iprop(ctx m K ∗ owesW c O ∗ credits δ c t ∗ ((owesW c O ∗ credits δ c (t + 1) ∗ allow δ (dst δ c) (t + 1)) -∗ Q ⟨⟩))
      ⊢ WP c (semWaitWord (credS δ) 1#32) Q := by
  unfold credits
  rw [bigSep_Ico_step ht]
  iintro ⟨#Hctx, HO, ⟨Hat, Hc, Hcs⟩, Hk⟩
  iapply (op_waitCredit m K δ c ht hO)
  isplitr; · iexact Hctx
  isplitl [HO]; · iexact HO
  isplitl [Hc]; · iexact Hc
  isplitl [Hat]; · iexact Hat
  iintro ⟨HO, Hat, Ha⟩
  iapply Hk
  isplitl [HO]; · iexact HO
  isplitl [Hat Hcs]
  · isplitl [Hat]; · iexact Hat
    iexact Hcs
  iexact Ha

/-- Step `t + 1`. -/
theorem step_spec (c : Dev nD) {t : ℕ} (ht : t < 13) (hs : t + 1 < 15) (Q : PUnit → sProp 𝕄) :
    iprop(ctx m K ∗ Inv m t c ∗ (Inv m (t + 1) c -∗ Q ⟨⟩)) ⊢ WP c (step c ⟨t + 1, hs⟩ (slotOf (t + 1))) Q := by
  have hab : Above (t + 2) (due c (t + 1) (t + 1) (t + 1) (t + 1)) := above_due c le_rfl le_rfl le_rfl le_rfl
  have ho : other (slotOf (t + 1)) = slotOf (t + 1 + 1) := by
    rcases Nat.mod_two_eq_zero_or_one (t + 1) with h | h
    · rw [show slotOf (t + 1) = 0 from Fin.ext h, show slotOf (t + 1 + 1) = 1 from Fin.ext (by show (t + 1 + 1) % 2 = 1; omega)]
    · rw [show slotOf (t + 1) = 1 from Fin.ext h, show slotOf (t + 1 + 1) = 0 from Fin.ext (by show (t + 1 + 1) % 2 = 0; omega)]
  unfold step takeCredits Inv
  rw [WP_bind, WP_bind]
  iintro ⟨#Hctx, ⟨HO, Hx, Hw, Ht, Hf, Hct, Hcf⟩, Hk⟩
  iapply (dir_take m K true c (by omega) hab)
  isplitr; · iexact Hctx
  isplitl [HO]; · iexact HO
  isplitl [Hct]; · iexact Hct
  iintro ⟨HO, Hct, #Hat⟩
  iapply (dir_take m K false c (by omega) hab)
  isplitr; · iexact Hctx
  isplitl [HO]; · iexact HO
  isplitl [Hcf]; · iexact Hcf
  iintro ⟨HO, Hcf, #Haf⟩
  iapply (stepRest_spec m K c (by omega) hs rfl ho)
  isplitr; · iexact Hctx
  isplitl [HO]; · iexact HO
  isplitl [Hx]; · iexact Hx
  isplitl [Hw]; · iexact Hw
  isplitl [Ht]; · iexact Ht
  isplitl [Hf]; · iexact Hf
  isplitr; · iexact Hat
  isplitr; · iexact Haf
  iintro ⟨HO, Hx, Hw, Ht, Hf⟩
  iapply Hk
  isplitl [HO]; · iexact HO
  isplitl [Hx]; · iexact Hx
  isplitl [Hw]; · iexact Hw
  isplitl [Ht]; · iexact Ht
  isplitl [Hf]; · iexact Hf
  isplitl [Hct]; · iexact Hct
  iexact Hcf

/-- Steps 1 … `n`. -/
theorem midSteps_spec (c : Dev nD) : ∀ (n : ℕ) (hn : n < 14) (h : n < 15) (Q : PUnit → sProp 𝕄),
    iprop(ctx m K ∗ Inv m 0 c ∗ (Inv m n c -∗ Q ⟨⟩)) ⊢ WP c (midSteps c n h) Q
  | 0, _, _, Q => by
    unfold midSteps
    iintro ⟨-, HI, Hk⟩
    iapply (WP_pure c)
    iapply Hk
    iexact HI
  | n + 1, hn, h, Q => by
    unfold midSteps
    rw [WP_bind]
    iintro ⟨#Hctx, HI, Hk⟩
    iapply (midSteps_spec c n (by omega) _)
    isplitr; · iexact Hctx
    isplitl [HI]; · iexact HI
    iintro HI
    iapply (step_spec m K c (by omega) h)
    isplitr; · iexact Hctx
    isplitl [HI]; · iexact HI
    iexact Hk

/-! ## The last step -/

/-- Every column lies in one of the two halves. -/
theorem colR_cover (i : S256x8192.Idx) : i ∈ (colR true).set ∨ i ∈ (colR false).set := by
  have h0 := (i 0).isLt; have h1 : (i 1).val < 8192 := (i 1).isLt
  by_cases h : (i 1).val < 4096
  · refine Or.inl (Rect.mem_set_unit.mpr fun a => ?_)
    fin_cases a
    · exact ⟨Nat.zero_le _, by simpa using h0⟩
    · exact ⟨Nat.zero_le _, by simpa using h⟩
  · refine Or.inr (Rect.mem_set_unit.mpr fun a => ?_)
    fin_cases a
    · exact ⟨Nat.zero_le _, by simpa using h0⟩
    · exact ⟨Nat.not_lt.mp h, by show (i 1).val < 4096 + 4096; omega⟩

/-- Writing both halves leaves nothing of what was there. -/
theorem write_halves (f g : (cc0_stg2_0 : Ref sig .tc).ty.Contents (Elt F)) (v w : Vec F S256x4096 .f32) :
    (oM.access (colR false)).write (Elt F) ((oM.access (colR true)).write (Elt F) f v Finset.univ) w Finset.univ
      = (oM.access (colR false)).write (Elt F) ((oM.access (colR true)).write (Elt F) g v Finset.univ) w Finset.univ := by
  funext i
  by_cases h : i ∈ (oM.access (colR false)).set
  · obtain ⟨x, -, rfl⟩ := Finset.mem_map.mp h
    rw [View.write_emb_of_mem _ _ (Finset.mem_univ x), View.write_emb_of_mem _ _ (Finset.mem_univ x)]
  · rw [View.write_of_not_mem _ _ _ h, View.write_of_not_mem _ _ _ h]
    have ht : i ∈ (oM.access (colR true)).set := by
      have key : ∀ δ, (oM.access (colR δ)).set = (colR δ).set.map oM.view.emb := fun δ => View.set_slice _ _
      have hu : i ∈ oM.view.set := by rw [show oM.view.set = Finset.univ from View.set_whole _]; exact Finset.mem_univ _
      obtain ⟨y, -, rfl⟩ := Finset.mem_map.mp hu
      rw [key] at h ⊢
      exact (colR_cover y).elim (fun h' => Finset.mem_map_of_mem _ h') fun h' => absurd (Finset.mem_map_of_mem _ h') h
    obtain ⟨x, -, rfl⟩ := Finset.mem_map.mp ht
    rw [View.write_emb_of_mem _ _ (Finset.mem_univ x), View.write_emb_of_mem _ _ (Finset.mem_univ x)]

/-- What the result buffer holds in the end: both halves (written over `w`, of which nothing is left). -/
def outAt (c : Dev nD) : (cc0_stg2_0 : Ref sig .tc).ty.Contents (Elt F) :=
  (oM.access (colR false)).write (Elt F) ((oM.access (colR true)).write (Elt F) (wstg m c) (outHalf m true c) Finset.univ) (outHalf m false c) Finset.univ

/-- It does not depend on what was there before. -/
theorem outAt_eq (c : Dev nD) (f : (cc0_stg2_0 : Ref sig .tc).ty.Contents (Elt F)) :
    (oM.access (colR false)).write (Elt F) ((oM.access (colR true)).write (Elt F) f (outHalf m true c) Finset.univ) (outHalf m false c) Finset.univ
      = outAt m c :=
  write_halves f (wstg m c) (outHalf m true c) (outHalf m false c)

/-- The result buffer, whole. -/
def oPts (c : Dev nD) (f : (cc0_stg2_0 : Ref sig .tc).ty.Contents (Elt F)) : sProp 𝕄 := (oM.view.loc (c : Thread nD τ)) ↦[oM.view.set]{fullShare} f

/-- A cell all of whose rounds are over. -/
def over (k : Cell) (c : Dev nD) : sProp 𝕄 := atPos ER (cell k c) (rounds k) ∅ 0

/-- A direction when all is done. -/
def dirEnd (δ : Bool) (c : Dev nD) : sProp 𝕄 :=
  iprop(slotRes (c, δ, 0) ∗ slotRes (c, δ, 1) ∗ over (.send δ 0) c ∗ over (.send δ 1) c ∗ over (.recv δ 0) c ∗ over (.recv δ 1) c)

/-- The last arrival of a direction, but for its last slot. -/
theorem dir_lastRecv (δ : Bool) (c : Dev nD) {O : CellTallies nD τ sig ℕ} (hO : Above 16 O) (Q : PUnit → sProp 𝕄) :
    iprop(ctx m K ∗ owesW c O ∗ dirBack δ 14 c
        ∗ ((owesW c O ∗ holds δ 1 c (acc m δ 14 (src δ c)) ∗ (slotRes (c, δ, 1) -∗ dirEnd δ c)) -∗ Q ⟨⟩)) ⊢ WP c (waitRecv δ 0) Q := by
  unfold dirBack back pos
  iintro ⟨#Hctx, HO, ⟨Hslot, Hc, ⟨-, -, -, ⟨H4, -⟩, ⟨H5, -⟩, ⟨H6, -⟩, ⟨H8, -⟩⟩, -, -⟩, Hk⟩
  iapply (op_waitRecv m K δ c (s := 14) (j := 0) (j' := 1) (by decide) rfl hO)
  isplitr; · iexact Hctx
  isplitl [HO]; · iexact HO
  isplitl [Hc]; · iexact Hc
  isplitl [H4]; · iexact H4
  iintro ⟨HO, H4, -, Hh⟩
  iapply Hk
  isplitl [HO]; · iexact HO
  isplitl [Hh]; · iexact Hh
  iintro Hs
  unfold dirEnd over
  isplitl [Hslot]; · iexact Hslot
  isplitl [Hs]; · iexact Hs
  isplitl [H6]; · iexact H6
  isplitl [H8]; · iexact H8
  isplitl [H5]; · iexact H5
  iexact H4

/-- The last credit of a direction. -/
theorem dir_takeLast (δ : Bool) (c : Dev nD) {O : CellTallies nD τ sig ℕ} (hO : Above 15 O) (Q : PUnit → sProp 𝕄) :
    iprop(ctx m K ∗ owesW c O ∗ credits δ c 13 ∗ ((owesW c O ∗ over (.cred δ) c ∗ allow δ (dst δ c) 14) -∗ Q ⟨⟩))
      ⊢ WP c (semWaitWord (credS δ) 1#32) Q := by
  unfold credits
  rw [bigSep_Ico_step (by decide : 13 < 14)]
  iintro ⟨#Hctx, HO, ⟨Hat, Hc, -⟩, Hk⟩
  iapply (op_waitLastCredit m K δ c hO)
  isplitr; · iexact Hctx
  isplitl [HO]; · iexact HO
  isplitl [Hc]; · iexact Hc
  isplitl [Hat]; · iexact Hat
  iexact Hk

/-- The last step. -/
theorem lastStep_spec (c : Dev nD) (f : (cc0_stg2_0 : Ref sig .tc).ty.Contents (Elt F)) (Q : PUnit → sProp 𝕄) :
    iprop(ctx m K ∗ Inv m 13 c ∗ oPts c f
        ∗ ((owesW c 0 ∗ xPts m c ∗ wPts m c ∗ oPts c (outAt m c) ∗ dirEnd true c ∗ dirEnd false c ∗ over (.cred true) c ∗ over (.cred false) c) -∗ Q ⟨⟩))
      ⊢ WP c (lastStep c) Q := by
  have hab : Above 15 (due c (13 + 1) (13 + 1) (13 + 1) (13 + 1)) := above_due c le_rfl le_rfl le_rfl le_rfl
  unfold lastStep takeCredits Inv
  rw [WP_bind, WP_bind]
  iintro ⟨#Hctx, ⟨HO, Hx, Hw, Ht, Hf, Hct, Hcf⟩, Ho, Hk⟩
  iapply (dir_takeLast m K true c hab)
  isplitr; · iexact Hctx
  isplitl [HO]; · iexact HO
  isplitl [Hct]; · iexact Hct
  iintro ⟨HO, Hct, #Hat⟩
  iapply (dir_takeLast m K false c hab)
  isplitr; · iexact Hctx
  isplitl [HO]; · iexact HO
  isplitl [Hcf]; · iexact Hcf
  iintro ⟨HO, Hcf, #Haf⟩
  rw [WP_bind]
  iapply (exchange_spec m K c (s := 14) (by decide) (j := 0) rfl rfl (b := 14) (b' := 14))
  isplitr; · iexact Hctx
  isplitl [HO]; · iexact HO
  isplitl [Hx]; · iexact Hx
  isplitl [Hw]; · iexact Hw
  isplitl [Ht]; · iexact Ht
  isplitl [Hf]; · iexact Hf
  isplitr; · iexact Hat
  isplitr; · iexact Haf
  rw [show due c (14 + 1) (14 + 1) 14 14 = 0 from due_end c]
  iintro ⟨HO, Hx, Hw, Ht, Hf⟩
  unfold arrivals
  rw [WP_bind, WP_bind]
  iapply (dir_lastRecv m K true c (Above.zero 16))
  isplitr; · iexact Hctx
  isplitl [HO]; · iexact HO
  isplitl [Ht]; · iexact Ht
  iintro ⟨HO, Hht, Ht⟩
  iapply (dir_lastRecv m K false c (Above.zero 16))
  isplitr; · iexact Hctx
  isplitl [HO]; · iexact HO
  isplitl [Hf]; · iexact Hf
  iintro ⟨HO, Hhf, Hf⟩
  rw [WP_bind]
  iapply (op_readSlot true 1 c (acc m true 14 (src true c)))
  isplitl [Hht]; · iexact Hht
  iintro Hht
  unfold oPts
  rw [WP_bind]
  iapply (op_writeOut true c (outHalf m true c) f)
  isplitl [Ho]; · iexact Ho
  iintro Ho
  rw [WP_bind]
  iapply (op_readSlot false 1 c (acc m false 14 (src false c)))
  isplitl [Hhf]; · iexact Hhf
  iintro Hhf
  iapply (op_writeOut false c (outHalf m false c) ((oM.access (colR true)).write (Elt F) f (outHalf m true c) Finset.univ))
  isplitl [Ho]; · iexact Ho
  iintro Ho
  rw [outAt_eq]
  iapply Hk
  isplitl [HO]; · iexact HO
  isplitl [Hx]; · iexact Hx
  isplitl [Hw]; · iexact Hw
  isplitl [Ho]; · iexact Ho
  isplitl [Ht Hht]
  · iapply Ht; iapply (holds_forget true 1 c); iexact Hht
  isplitl [Hf Hhf]
  · iapply Hf; iapply (holds_forget false 1 c); iexact Hhf
  isplitl [Hct]; · iexact Hct
  iexact Hcf

/-! ## The handshake -/

/-- A direction at entry: both slots and their counts, and the right to signal the barrier of the neighbour it comes from. -/
def dirStart (δ : Bool) (c : Dev nD) : sProp 𝕄 :=
  iprop(slotRes (c, δ, 0) ∗ slotRes (c, δ, 1) ∗ Release.readerAt ES (c, δ, 0) 0 ∗ Release.readerAt ES (c, δ, 1) 0
    ∗ dutyTok ER (cell .bar (src δ c)) 0 (barDuty δ)
    ∗ atPos ER (cell (.recv δ 0) c) 0 ∅ 0 ∗ atPos ER (cell (.recv δ 1) c) 0 ∅ 0 ∗ atPos ER (cell (.send δ 0) c) 0 ∅ 0 ∗ atPos ER (cell (.send δ 1) c) 0 ∅ 0)

/-- The same once slot 1 is deposited and the neighbour told. -/
def dirReady (δ : Bool) (c : Dev nD) : sProp 𝕄 :=
  iprop(slotRes (c, δ, 0) ∗ ring δ c 0 1 0 0)

/-- A direction's signal to the barrier of the neighbour it comes from. -/
theorem dir_signal (δ : Bool) (c : Dev nD) {O₁ O : CellTallies nD τ sig ℕ} (hO : O₁ = O + barDue δ c) (Q : PUnit → sProp 𝕄) :
    iprop(ctx m K ∗ owesW c O₁ ∗ dirStart δ c ∗ ((owesW c O ∗ dirReady δ c) -∗ Q ⟨⟩)) ⊢ WP c (semSignalWord (src δ c) barS 1#32) Q := by
  unfold dirStart dirReady ring pos
  iintro ⟨#Hctx, HO, ⟨Hs0, Hs1, H0, H1, Ht, Hr0, Hr1, Hq0, Hq1⟩, Hk⟩
  imod (Release.slot_release ES (k := (c, δ, 1)) (S := slotRes (c, δ, 1)) (Set.mem_univ (K.slots (c, δ, 1)))
    (Release.slot_slot_false (slot_nonempty δ 1)) 0) $$ [H1 Hs1] with ⟨H1, #Hrel⟩
  · isplitr; · iapply (ctx_slot m K (c, δ, 1)); iexact Hctx
    isplitl [H1]; · iexact H1
    iexact Hs1
  iapply (op_signalBar m K δ c hO)
  isplitr; · iexact Hctx
  isplitl [HO]; · iexact HO
  isplitl [Ht]; · iexact Ht
  isplitr
  · unfold allow
    isplitr; · iexact Hrel
    iapply (ctx_reached m K (.recv δ 1) c); iexact Hctx
  iintro HO
  iapply Hk
  isplitl [HO]; · iexact HO
  isplitl [Hs0]; · iexact Hs0
  isplitl [H1]; · iexact H1
  isplitr; · iexact Hrel
  isplitl [H0]; · iexact H0
  isplitl [Hr1]
  · isplitl [Hr1]; · iexact Hr1
    iapply (ctx_reached m K (.recv δ 1) c); iexact Hctx
  isplitl [Hr0]
  · isplitl [Hr0]; · iexact Hr0
    iapply (ctx_reached m K (.recv δ 0) c); iexact Hctx
  isplitl [Hq0]
  · isplitl [Hq0]; · iexact Hq0
    iapply (ctx_reached m K (.send δ 0) c); iexact Hctx
  · isplitl [Hq1]; · iexact Hq1
    iapply (ctx_reached m K (.send δ 1) c); iexact Hctx

/-- The handshake and the first partial products. -/
theorem prologue_spec (c : Dev nD) (Q : PUnit → sProp 𝕄) :
    iprop(ctx m K ∗ owesW c (O₀ c) ∗ xPts m c ∗ wPts m c ∗ dirStart true c ∗ dirStart false c
        ∗ cred (tallyAt (cell .bar c) 0 2) ∗ atPos ER (cell .bar c) 0 ∅ 0
        ∗ ((owesW c (due c 0 0 0 0) ∗ xPts m c ∗ wPts m c ∗ over .bar c
            ∗ (holds true 0 c (acc m true 0 c) ∗ ring true c 0 1 0 0) ∗ (holds false 0 c (acc m false 0 c) ∗ ring false c 0 1 0 0)
            ∗ allow true (dst true c) 0 ∗ allow false (dst false c) 0) -∗ Q ⟨⟩))
      ⊢ WP c (prologue c) Q := by
  unfold prologue
  rw [dev1_eq, dev2_eq, WP_bind]
  iintro ⟨#Hctx, HO, Hx, Hw, Ht, Hf, Hc, Hb, Hk⟩
  iapply (dir_signal m K true c (O := due c 0 0 0 0 + barDue false c) rfl)
  isplitr; · iexact Hctx
  isplitl [HO]; · iexact HO
  isplitl [Ht]; · iexact Ht
  iintro ⟨HO, Ht⟩
  rw [WP_bind]
  iapply (dir_signal m K false c (O := due c 0 0 0 0) rfl)
  isplitr; · iexact Hctx
  isplitl [HO]; · iexact HO
  isplitl [Hf]; · iexact Hf
  iintro ⟨HO, Hf⟩
  rw [WP_bind]
  iapply (op_waitBar m K c (above_due c (n := 0) le_rfl le_rfl le_rfl le_rfl))
  isplitr; · iexact Hctx
  isplitl [HO]; · iexact HO
  isplitl [Hc]; · iexact Hc
  isplitl [Hb]; · iexact Hb
  iintro ⟨HO, Hb, #Hat, #Haf⟩
  unfold dirReady
  icases Ht with ⟨Hst, Hrt⟩
  icases Hf with ⟨Hsf, Hrf⟩
  rw [WP_bind]
  iapply (op_readXW m true c)
  isplitl [Hx]; · iexact Hx
  isplitl [Hw]; · iexact Hw
  iintro ⟨Hx, Hw⟩
  rw [WP_bind]
  iapply (op_writeSlot true 0 c (acc m true 0 c))
  isplitl [Hst]; · iexact Hst
  iintro Hht
  rw [WP_bind]
  iapply (op_readXW m false c)
  isplitl [Hx]; · iexact Hx
  isplitl [Hw]; · iexact Hw
  iintro ⟨Hx, Hw⟩
  iapply (op_writeSlot false 0 c (acc m false 0 c))
  isplitl [Hsf]; · iexact Hsf
  iintro Hhf
  iapply Hk
  isplitl [HO]; · iexact HO
  isplitl [Hx]; · iexact Hx
  isplitl [Hw]; · iexact Hw
  isplitl [Hb]; · unfold over; iexact Hb
  isplitl [Hht Hrt]
  · isplitl [Hht]; · iexact Hht
    iexact Hrt
  isplitl [Hhf Hrf]
  · isplitl [Hhf]; · iexact Hhf
    iexact Hrf
  isplitr; · iexact Hat
  iexact Haf

end Cert.RingProof

end
-- ==== Proof.Body.lean ====
/-
# One device's body

The steps put together: the handshake, step 0, steps 1 … 13, the last step; then every cell is closed with its counter at zero.
What the launch of the kernel asks of the body, and what it holds before and after.
-/
module

public import proofs.«01_k».proof.Proof.Steps

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Names)

/-! ## The body -/

/-- A direction at entry: its slots and cells, and what its steps use up. -/
def dirBody (δ : Bool) (c : Dev nD) : sProp 𝕄 :=
  iprop(dirStart δ c ∗ sendToks δ c 0 ∗ credToks δ c 0 ∗ credits δ c 0)

/-- What is left of the cells and the buffers when all is done. -/
def bodyEnd (c : Dev nD) : sProp 𝕄 :=
  iprop(dirEnd true c ∗ dirEnd false c ∗ over (.cred true) c ∗ over (.cred false) c ∗ over .bar c)

/-- The whole body. -/
theorem body_spec (c : Dev nD) (f : (cc0_stg2_0 : Ref sig .tc).ty.Contents (Elt F)) (Q : PUnit → sProp 𝕄) :
    iprop(ctx m K ∗ owesW c (O₀ c) ∗ xPts m c ∗ wPts m c ∗ oPts c f ∗ dirBody true c ∗ dirBody false c
        ∗ cred (tallyAt (cell .bar c) 0 2) ∗ atPos ER (cell .bar c) 0 ∅ 0
        ∗ ((owesW c 0 ∗ xPts m c ∗ wPts m c ∗ oPts c (outAt m c) ∗ bodyEnd c) -∗ Q ⟨⟩))
      ⊢ WP c (bodyOn c) Q := by
  unfold bodyOn dirBody bodyEnd
  rw [WP_bind]
  iintro ⟨#Hctx, HO, Hx, Hw, Ho, ⟨Hst, Htt, Hgt, Hct⟩, ⟨Hsf, Htf, Hgf, Hcf⟩, Hcb, Hb, Hk⟩
  iapply (prologue_spec m K c)
  isplitr; · iexact Hctx
  isplitl [HO]; · iexact HO
  isplitl [Hx]; · iexact Hx
  isplitl [Hw]; · iexact Hw
  isplitl [Hst]; · iexact Hst
  isplitl [Hsf]; · iexact Hsf
  isplitl [Hcb]; · iexact Hcb
  isplitl [Hb]; · iexact Hb
  iintro ⟨HO, Hx, Hw, Hb, ⟨Hht, Hrt⟩, ⟨Hhf, Hrf⟩, #Hat, #Haf⟩
  rw [WP_bind]
  iapply (stepRest_spec m K c (s := 0) (by decide) (by decide) (j := 0) rfl rfl)
  isplitr; · iexact Hctx
  isplitl [HO]; · iexact HO
  isplitl [Hx]; · iexact Hx
  isplitl [Hw]; · iexact Hw
  isplitl [Hht Hrt Htt Hgt]
  · unfold dirAt
    isplitl [Hht]; · iexact Hht
    isplitl [Hrt]; · iexact Hrt
    isplitl [Htt] <;> iassumption
  isplitl [Hhf Hrf Htf Hgf]
  · unfold dirAt
    isplitl [Hhf]; · iexact Hhf
    isplitl [Hrf]; · iexact Hrf
    isplitl [Htf] <;> iassumption
  isplitr; · iexact Hat
  isplitr; · iexact Haf
  iintro ⟨HO, Hx, Hw, Ht, Hf⟩
  rw [WP_bind]
  iapply (midSteps_spec m K c 13 (by decide) _)
  isplitr; · iexact Hctx
  isplitl [HO Hx Hw Ht Hf Hct Hcf]
  · unfold Inv
    isplitl [HO]; · iexact HO
    isplitl [Hx]; · iexact Hx
    isplitl [Hw]; · iexact Hw
    isplitl [Ht]; · iexact Ht
    isplitl [Hf]; · iexact Hf
    isplitl [Hct] <;> iassumption
  iintro HI
  iapply (lastStep_spec m K c f)
  isplitr; · iexact Hctx
  isplitl [HI]; · iexact HI
  isplitl [Ho]; · iexact Ho
  iintro ⟨HO, Hx, Hw, Ho, Het, Hef, Hct, Hcf⟩
  iapply Hk
  isplitl [HO]; · iexact HO
  isplitl [Hx]; · iexact Hx
  isplitl [Hw]; · iexact Hw
  isplitl [Ho]; · iexact Ho
  isplitl [Het]; · iexact Het
  isplitl [Hef]; · iexact Hef
  isplitl [Hct]; · iexact Hct
  isplitl [Hcf] <;> iassumption

/-! ## The cells of a device, one by one -/

/-- All cells of a device. -/
theorem bigSep_cells (Φ : Cell → sProp 𝕄) : bigSep Finset.univ Φ
    = iprop(Φ .bar ∗ Φ (.send true 0) ∗ Φ (.send true 1) ∗ Φ (.send false 0) ∗ Φ (.send false 1)
      ∗ Φ (.recv true 0) ∗ Φ (.recv true 1) ∗ Φ (.recv false 0) ∗ Φ (.recv false 1) ∗ Φ (.cred true) ∗ Φ (.cred false)) :=
  bigSep_univ_eq_bigSepL cellList (by decide) cellList_nodup Φ

/-- The semaphores of a device, all at zero. -/
def zeros (c : Dev nD) : sProp 𝕄 := bigSep Finset.univ fun k : Cell => semVal (cell k c) 0

/-- A cell whose rounds are over is closed. -/
theorem close_cell (k : Cell) (c : Dev nD) : iprop(ctx m K ∗ over k c) ⊢ |={Set.univ}=> (semVal (cell k c) 0 : sProp 𝕄) := by
  unfold over
  refine (sep_mono_left (ctx_cell m K k c)).trans ?_
  exact Rounds.cell_close ER (ringRd m) (Set.mem_univ _) (fun h => h) (fun r h => duties_after m k c r h)

/-- All cells of a device are closed. -/
theorem close_cells (c : Dev nD) : iprop(ctx m K ∗ bigSep Finset.univ fun k : Cell => over k c) ⊢ |={Set.univ}=> zeros c := by
  unfold zeros
  refine (?_ : _ ⊢ bigSep Finset.univ fun k : Cell => (iprop(|={Set.univ}=> semVal (cell k c) 0) : sProp 𝕄)).trans (bigSep_fupd _ _)
  refine (sep_mono_left (BI.bigSep_of_persistent (Finset.univ : Finset Cell) (ctx m K))).trans ?_
  rw [← bigSep_sep']
  exact bigSep_mono fun k _ => close_cell m K k c

/-! ## The buffers -/

/-- A direction's buffer is its two slots. -/
theorem slots_split (δ : Bool) (c : Dev nD) :
    iprop(∃ f : Buf (Elt F) ((bufM δ).view.loc (c : Thread nD τ)), ((bufM δ).view.loc (c : Thread nD τ)) ↦{fullShare} f)
      ⊢ (iprop(slotRes (c, δ, 0) ∗ slotRes (c, δ, 1)) : sProp 𝕄) := by
  iintro ⟨%f, H⟩
  ihave H' := (Entails.of_eq (show (((bufM δ).view.loc (c : Thread nD τ)) ↦{fullShare} f : sProp 𝕄)
    = (((bufM δ).view.loc (c : Thread nD τ)) ↦[(slotM δ 0).view.set ∪ (slotM δ 1).view.set]{fullShare} f) from by rw [slots_union])) $$ H
  ihave H2 := (pointsTo_union (slots_disjoint δ)).1 $$ H'
  icases H2 with ⟨H0, H1⟩
  unfold slotRes Release.slot
  isplitl [H0]
  · iexists f; iexact H0
  · iexists f; iexact H1

/-- And back. -/
theorem slots_join (δ : Bool) (c : Dev nD) :
    (iprop(slotRes (c, δ, 0) ∗ slotRes (c, δ, 1)) : sProp 𝕄)
      ⊢ iprop(∃ f : Buf (Elt F) ((bufM δ).view.loc (c : Thread nD τ)), ((bufM δ).view.loc (c : Thread nD τ)) ↦{fullShare} f) := by
  unfold slotRes Release.slot
  iintro ⟨⟨%f, H0⟩, ⟨%g, H1⟩⟩
  iexists ((slotM δ 1).view.set.piecewise g f)
  ihave H := (pointsTo_join (ℓ := (bufM δ).view.loc (c : Thread nD τ)) (I := (slotM δ 0).view.set) (J := (slotM δ 1).view.set) (q := fullShare) (f := f) (g := g) (slots_disjoint δ)) $$ [H0 H1]
  · isplitl [H0] <;> iassumption
  iapply (Entails.of_eq (show (((bufM δ).view.loc (c : Thread nD τ)) ↦{fullShare} ((slotM δ 1).view.set.piecewise g f) : sProp 𝕄)
    = (((bufM δ).view.loc (c : Thread nD τ)) ↦[(slotM δ 0).view.set ∪ (slotM δ 1).view.set]{fullShare} ((slotM δ 1).view.set.piecewise g f)) from by rw [slots_union]).symm)
  iexact H

/-- The two buffers of a device, at any contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The two buffers are their four slots, -/
theorem bufs_split (c : Dev nD) :
    bufs c ⊢ (iprop((slotRes (c, true, 0) ∗ slotRes (c, true, 1)) ∗ (slotRes (c, false, 0) ∗ slotRes (c, false, 1))) : sProp 𝕄) := by
  unfold bufs
  exact BI.sep_mono (slots_split true c) (slots_split false c)

/-- and the four slots are the two buffers. -/
theorem bufs_join (c : Dev nD) :
    (iprop((slotRes (c, true, 0) ∗ slotRes (c, true, 1)) ∗ (slotRes (c, false, 0) ∗ slotRes (c, false, 1))) : sProp 𝕄) ⊢ bufs c := by
  unfold bufs
  exact BI.sep_mono (slots_join true c) (slots_join false c)

/-- When all is done: the buffers whole again, and all cells at zero. -/
theorem body_close (c : Dev nD) : iprop(ctx m K ∗ bodyEnd c) ⊢ |={Set.univ}=> (iprop(bufs c ∗ zeros c) : sProp 𝕄) := by
  unfold bodyEnd dirEnd
  iintro ⟨#Hctx, ⟨Ht0, Ht1, Hst0, Hst1, Hrt0, Hrt1⟩, ⟨Hf0, Hf1, Hsf0, Hsf1, Hrf0, Hrf1⟩, Hct, Hcf, Hb⟩
  imod (close_cells m K c) $$ [Hst0 Hst1 Hrt0 Hrt1 Hsf0 Hsf1 Hrf0 Hrf1 Hct Hcf Hb] with Hz
  · isplitr; · iexact Hctx
    rw [bigSep_cells]
    isplitl [Hb]; · iexact Hb
    isplitl [Hst0]; · iexact Hst0
    isplitl [Hst1]; · iexact Hst1
    isplitl [Hsf0]; · iexact Hsf0
    isplitl [Hsf1]; · iexact Hsf1
    isplitl [Hrt0]; · iexact Hrt0
    isplitl [Hrt1]; · iexact Hrt1
    isplitl [Hrf0]; · iexact Hrf0
    isplitl [Hrf1]; · iexact Hrf1
    isplitl [Hct] <;> iassumption
  imodintro
  isplitr [Hz]
  · iapply (bufs_join c)
    isplitl [Ht0 Ht1]
    · isplitl [Ht0] <;> iassumption
    · isplitl [Hf0] <;> iassumption
  iexact Hz

end Cert.RingProof

end
-- ==== Proof.Region.lean ====
/-
# What the launch asks of the body

The body between its staging buffers: `x` and `w` come in and stay, the result goes out; beside them the device's records, tokens
and credits, and its two buffers.
-/
module

public import proofs.«01_k».proof.Proof.Body

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Names)

variable (ρ : Dev nD → PrngReg)

/-! ## What the body holds -/

/-- A direction at entry, without its slots: they come from the buffers. -/
def dirIn (δ : Bool) (c : Dev nD) : sProp 𝕄 :=
  iprop((Release.readerAt ES (c, δ, 0) 0 ∗ Release.readerAt ES (c, δ, 1) 0
      ∗ dutyTok ER (cell .bar (src δ c)) 0 (barDuty δ)
      ∗ atPos ER (cell (.recv δ 0) c) 0 ∅ 0 ∗ atPos ER (cell (.recv δ 1) c) 0 ∅ 0 ∗ atPos ER (cell (.send δ 0) c) 0 ∅ 0 ∗ atPos ER (cell (.send δ 1) c) 0 ∅ 0)
    ∗ sendToks δ c 0 ∗ credToks δ c 0 ∗ credits δ c 0)

/-- With its slots it is what the body starts from. -/
theorem dirIn_body (δ : Bool) (c : Dev nD) : iprop((slotRes (c, δ, 0) ∗ slotRes (c, δ, 1)) ∗ dirIn δ c) ⊢ (dirBody δ c : sProp 𝕄) := by
  unfold dirIn dirBody dirStart
  iintro ⟨⟨H0, H1⟩, Ha, Hb⟩
  isplitr [Hb]
  · isplitl [H0]; · iexact H0
    isplitl [H1]; · iexact H1
    iexact Ha
  · iexact Hb

/-- What a device starts with besides its buffers. -/
def start (c : Dev nD) : sProp 𝕄 :=
  iprop(∃ K : Names, ctx m K ∗ dirIn true c ∗ dirIn false c ∗ cred (tallyAt (cell .bar c) 0 2) ∗ atPos ER (cell .bar c) 0 ∅ 0)

def Φ₀ (c : Dev nD) : sProp 𝕄 := iprop(start m c ∗ bufs c)
def Φ₁ (c : Dev nD) : sProp 𝕄 := iprop(bufs c ∗ zeros c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The first argument is fetched at the one step, -/
theorem fetch_x (t : Fin cfg0.N) : (cfg0.win (0 : Fin 3)).fetch t = true := by rw [fin_N0 t]; rfl
/-- and so is the second. -/
theorem fetch_w (t : Fin cfg0.N) : (cfg0.win (1 : Fin 3)).fetch t = true := by rw [fin_N0 t]; rfl

/-- To own a whole buffer with contents `X` is to have it point to `X`. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's hold on the staged `x`, as a plain points-to; -/
theorem xPts_whole (c : Dev nD) : (xPts m c : sProp 𝕄) = (((c : Thread nD τ).loc cc0_stg0_0) ↦{fullShare} xstg m c) := by
  unfold xPts; simp only [Memref.view_whole, View.set_whole]
/-- on the staged `w`; -/
theorem wPts_whole (c : Dev nD) : (wPts m c : sProp 𝕄) = (((c : Thread nD τ).loc cc0_stg1_0) ↦{fullShare} wstg m c) := by
  unfold wPts; simp only [Memref.view_whole, View.set_whole]
/-- and on the result. -/
theorem oPts_whole (c : Dev nD) (f : (cc0_stg2_0 : Ref sig .tc).ty.Contents (Elt F)) :
    (oPts c f : sProp 𝕄) = (((c : Thread nD τ).loc cc0_stg2_0) ↦{fullShare} f) := by
  unfold oPts; simp only [Memref.view_whole, View.set_whole]

def bodyPre (c : Dev nD) : sProp 𝕄 :=
  iprop(Φ₀ m c ∗ (dats m ρ 0 c).owesAt (0 : ℕ) t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt (0 : ℕ) t0_0.succ
    ∗ stg c cc0_stg0_0 (xstg m c) ∗ stg c cc0_stg1_0 (wstg m c) ∗ stg c cc0_stg2_0 (outAt m c))

/-- The body, run between its staging buffers. -/
theorem sound_body (c : Dev nD) : bodyPre m ρ c ⊢ WP c (bodyOn c) (fun _ => bodyPost m ρ c) := by
  unfold WP
  refine BIBase.Entails.trans ?_ (wp_fupd _ _ _ _ _)
  unfold bodyPre Φ₀ start
  iintro ⟨⟨⟨%K, #Hctx, Ht, Hf, Hcb, Hb⟩, Hbufs⟩, Ho, ⟨%d0, %g0, %hg0, Hx⟩, ⟨%d1, %g1, %hg1, Hw⟩, ⟨%d2, %g2, -, Hout⟩⟩
  have hx : g0 = xstg m c := by rw [hg0]; unfold Dat.before; rw [if_pos (fetch_x t0_0)]; rfl
  have hw : g1 = wstg m c := by rw [hg1]; unfold Dat.before; rw [if_pos (fetch_w t0_0)]; rfl
  subst hx; subst hw
  unfold Dat.owesAt Pipeline.owesWithin
  icases Ho with ⟨%W, %hW, HO⟩
  rw [show (dats m ρ 0 c).owed t0_0.castSucc = O₀ c from rfl]
  ihave Hs := (bufs_split c) $$ Hbufs
  icases Hs with ⟨Hst, Hsf⟩
  iapply (body_spec m K c g2)
  isplitr; · iexact Hctx
  isplitl [HO]; · unfold owesW; iexists W; iexact HO
  isplitl [Hx]; · rw [xPts_whole]; iexact Hx
  isplitl [Hw]; · rw [wPts_whole]; iexact Hw
  isplitl [Hout]; · rw [oPts_whole]; iexact Hout
  isplitl [Hst Ht]; · iapply (dirIn_body true c); isplitl [Hst] <;> iassumption
  isplitl [Hsf Hf]; · iapply (dirIn_body false c); isplitl [Hsf] <;> iassumption
  isplitl [Hcb]; · iexact Hcb
  isplitl [Hb]; · iexact Hb
  iintro ⟨HO, Hx, Hw, Hout, He⟩
  imod (body_close m K c) $$ [He] with ⟨Hbufs, Hz⟩
  · isplitr; · iexact Hctx
    iexact He
  imodintro
  unfold bodyPost Φ₁ owesW
  icases HO with ⟨%W', HO⟩
  isplitl [Hbufs Hz]
  · isplitl [Hbufs] <;> iassumption
  isplitl [HO]
  · unfold Dat.owesAt Pipeline.owesWithin
    iexists W'; isplitr; · ipureintro; exact fun _ _ => Or.inl trivial
    iexact HO
  ihave Hx := (Entails.of_eq (xPts_whole m c)) $$ Hx
  ihave Hw := (Entails.of_eq (wPts_whole m c)) $$ Hw
  ihave Hout := (Entails.of_eq (oPts_whole c (outAt m c))) $$ Hout
  isplitl [Hx]; · iexists (xstg m c); isplitr; · ipureintro; rfl
                  iexact Hx
  isplitl [Hw]; · iexists (wstg m c); isplitr; · ipureintro; rfl
                  iexact Hw
  iexists (outAt m c); isplitr; · ipureintro; rfl
  iexact Hout

/-- A body that first asks which device it runs on. -/
theorem WP_device (c : Dev nD) {α : Type} (k : Dev nD → PT F α) (Q : α → sProp 𝕄) :
    WP c (do let d ← Prog.lift .deviceId; k d) Q = WP c (k c) Q := by
  simp only [Prog.lift, Prog.bind_op, Prog.bind_ret, wp_deviceId]

set_option maxRecDepth 65536 in
/-- The body does what the launch asks of it: from the staged arguments to the staged result. -/
theorem body_obligation (c : Dev nD) : BodyObligation (dats (F := F) m ρ 0 c) (defs₀ (F := F)) 𝒱₀ (0 : ℕ) Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c)
  exact (sound_body m ρ c).trans ((Entails.of_eq (WP_device c _ _).symm).trans (Entails.of_eq (congrArg (fun p => WP c p (fun _ => bodyPost m ρ c)) body_eq.symm)))

end Cert.RingProof

end
-- ==== Proof.Deal.lean ====
/-
# What the launch deals

Ghost state at launch: for each cell its place and its record, for each slot its count, for each duty its token, for each unit that
a neighbour owes a credit. A token goes to the device that pays the duty, a credit to the device that waits for it.
-/
module

public import proofs.«01_k».proof.Proof.Region
public import Idealize.ShloMosaic.Lib.SparseCore.Launch

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Names)

/-! ## Credits -/

/-- Credit for a sum is credit for each summand. -/
theorem cred_sum_each (s : Finset ℕ) (f : ℕ → CellTallies nD τ sig ℕ) : (cred (∑ i ∈ s, f i) : sProp 𝕄) ⊢ bigSep s fun i => cred (f i) := by
  induction s using Finset.induction_on with
  | empty => rw [Finset.sum_empty, cred_zero, bigSep_empty]; exact BIBase.Entails.refl
  | insert a s ha ih => rw [Finset.sum_insert ha, bigSep_insert ha]; exact (cred_add _ _).1.trans (BI.sep_mono_r ih)

/-- What is owed to device `c`: by each neighbour its arrivals, its credits, its unit of the barrier. -/
def dueTo (c : Dev nD) : CellTallies nD τ sig ℕ :=
  recvDue true (src true c) 0 + recvDue false (src false c) 0 + (credDue true (dst true c) 0 + credDue false (dst false c) 0)
    + barDue false (dst false c) + barDue true (dst true c)

/-- All that is owed, summed over the devices that owe it or over the devices it is owed to. -/
theorem sum_due : (∑ d, O₀ d) = ∑ d, dueTo d := by
  unfold O₀ due dueTo
  simp only [Finset.sum_add_distrib]
  rw [← Equiv.sum_comp (shift true).symm (fun d => recvDue true d 0), ← Equiv.sum_comp (shift false).symm (fun d => recvDue false d 0),
    ← Equiv.sum_comp (shift true) (fun d => credDue true d 0), ← Equiv.sum_comp (shift false) (fun d => credDue false d 0),
    ← Equiv.sum_comp (shift true) (fun d => barDue true d), ← Equiv.sum_comp (shift false) (fun d => barDue false d)]
  rfl

/-- A tally that lies on device `c`. -/
def OnDev (c : Dev nD) (T : CellTallies nD τ sig ℕ) : Prop := ∀ g, T g ≠ 0 → g.1 = (c.tc : Thread nD τ)

/-- A sum of two tallies on a device lies on it. -/
theorem OnDev.add {c : Dev nD} {T T' : CellTallies nD τ sig ℕ} (h : OnDev c T) (h' : OnDev c T') : OnDev c (T + T') := fun g hg => by
  by_cases hz : T g = 0
  · refine h' g fun hz' => hg ?_
    rw [Pi.add_apply, hz, hz', add_zero]
  · exact h g hz

/-- The empty tally lies on every device. -/
theorem OnDev.zero (c : Dev nD) : OnDev c 0 := fun g hg => absurd rfl hg

/-- A finite sum of tallies on a device lies on it. -/
theorem OnDev.sum {c : Dev nD} {s : Finset ℕ} {f : ℕ → CellTallies nD τ sig ℕ} (h : ∀ i ∈ s, OnDev c (f i)) : OnDev c (∑ i ∈ s, f i) :=
  Finset.sum_induction f (OnDev c) (fun _ _ => OnDev.add) (OnDev.zero c) h

/-- A tally at a cell of the device lies on it. -/
theorem OnDev.tally (k : Cell) {c d : Dev nD} (i n : ℕ) (h : d = c) : OnDev c (tallyAt (cell k d) i n) := fun g hg => by
  by_contra hne
  exact hg (tallyAt_ne_cell (fun he => hne (by rw [he, h])) i n)

/-- All that the neighbours owe a device lies on that device. -/
theorem dueTo_onDev (c : Dev nD) : OnDev c (dueTo c) := by
  unfold dueTo
  refine ((((OnDev.add ?_ ?_).add (OnDev.add ?_ ?_)).add ?_).add ?_)
  · exact OnDev.sum fun i _ => OnDev.tally _ _ _ (dst_src true c)
  · exact OnDev.sum fun i _ => OnDev.tally _ _ _ (dst_src false c)
  · exact OnDev.sum fun i _ => OnDev.tally _ _ _ (src_dst true c)
  · exact OnDev.sum fun i _ => OnDev.tally _ _ _ (src_dst false c)
  · exact OnDev.tally _ _ _ (src_dst false c)
  · exact OnDev.tally _ _ _ (src_dst true c)

/-- A direction's credits on device `c`. -/
def dirCreds (δ : Bool) (c : Dev nD) : sProp 𝕄 :=
  iprop((bigSep (Finset.Ico 0 15) fun i => cred (tallyAt (cell (.recv δ (slotOf (i + 1))) c) i N))
    ∗ (bigSep (Finset.Ico 0 14) fun i => cred (tallyAt (cell (.cred δ) c) i 1)))

/-- What the neighbour behind owes in arrivals is one credit for each step. -/
theorem recv_creds (δ : Bool) (c : Dev nD) :
    (cred (recvDue δ (src δ c) 0) : sProp 𝕄) ⊢ bigSep (Finset.Ico 0 15) fun i => cred (tallyAt (cell (.recv δ (slotOf (i + 1))) c) i N) := by
  unfold recvDue
  rw [dst_src]
  exact cred_sum_each _ _

/-- What the neighbour ahead owes in slot credits is one credit for each of the fourteen steps. -/
theorem cred_creds (δ : Bool) (c : Dev nD) :
    (cred (credDue δ (dst δ c) 0) : sProp 𝕄) ⊢ bigSep (Finset.Ico 0 14) fun i => cred (tallyAt (cell (.cred δ) c) i 1) := by
  unfold credDue
  rw [src_dst]
  exact cred_sum_each _ _

/-- The two neighbours' units of the barrier are one credit of two. -/
theorem bar_creds (c : Dev nD) : (cred (barDue false (dst false c) + barDue true (dst true c)) : sProp 𝕄) = cred (tallyAt (cell .bar c) 0 2) := by
  unfold barDue
  rw [src_dst, src_dst, tallyAt_add]

/-- The credits the launch deals device `c`. -/
theorem launch_creds (c : Dev nD) :
    (Pipeline.launchCred O₀ c : sProp 𝕄) ⊢ iprop(cred (tallyAt (cell .bar c) 0 2) ∗ dirCreds true c ∗ dirCreds false c) := by
  rw [Pipeline.launchCred_of_sum O₀ dueTo sum_due dueTo_onDev c]
  unfold dueTo dirCreds
  rw [add_assoc, ← bar_creds c]
  iintro H
  ihave H := (cred_add _ _).1 $$ H
  icases H with ⟨H, Hb⟩
  ihave H := (cred_add _ _).1 $$ H
  icases H with ⟨Hr, Hc⟩
  ihave Hr := (cred_add _ _).1 $$ Hr
  icases Hr with ⟨Hrt, Hrf⟩
  ihave Hc := (cred_add _ _).1 $$ Hc
  icases Hc with ⟨Hct, Hcf⟩
  isplitl [Hb]; · iexact Hb
  isplitl [Hrt Hct]
  · isplitl [Hrt]; · iapply (recv_creds true c); iexact Hrt
    iapply (cred_creds true c); iexact Hct
  · isplitl [Hrf]; · iapply (recv_creds false c); iexact Hrf
    iapply (cred_creds false c); iexact Hcf

/-! ## Tokens -/

/-- All cells. -/
def ringCells : Finset (GSem nD τ sig) :=
  Finset.univ.map ⟨fun ck : Dev nD × Cell => cell ck.2 ck.1, fun a b h => Prod.ext (cell_inj h).2 (cell_inj h).1⟩

/-- The duty device `c` pays in direction `δ`: of the barrier, of its send semaphore, of the neighbour's receive semaphore, of the
    other neighbour's credit semaphore. -/
def payTok (c : Dev nD) (δ : Bool) (q : Fin 4) (i : ℕ) : GSem nD τ sig × ℕ × ℕ := match q with
  | 0 => (cell .bar (src δ c), 0, barDuty δ + 2 * i)
  | 1 => (cell (.send δ (slotOf i)) c, i / 2, 0)
  | 2 => (cell (.recv δ (slotOf (i + 1))) (dst δ c), i / 2, 0)
  | 3 => (cell (.cred δ) (src δ c), 0, i)

/-- Steps that use one slot have one parity. -/
theorem slotOf_inj {i i' : ℕ} (h : slotOf i = slotOf i') : i % 2 = i' % 2 := congrArg Fin.val h

/-- Different devices, directions, kinds and steps pay with different tokens. -/
theorem payTok_inj {c c' : Dev nD} {δ δ' : Bool} {q q' : Fin 4} {i i' : ℕ} (h : payTok c δ q i = payTok c' δ' q' i') :
    c = c' ∧ δ = δ' ∧ q = q' ∧ i = i' := by
  have h2 : (payTok c δ q i).2.1 = (payTok c' δ' q' i').2.1 := by rw [h]
  have h3 : (payTok c δ q i).2.2 = (payTok c' δ' q' i').2.2 := by rw [h]
  have h1 : (payTok c δ q i).1 = (payTok c' δ' q' i').1 := by rw [h]
  clear h
  fin_cases q <;> fin_cases q' <;> obtain ⟨hk, hc⟩ := cell_inj h1 <;> first | (exfalso; cases hk; done) | skip
  · have hδ : δ = δ' ∧ i = i' := by
      have h : barDuty δ + 2 * i = barDuty δ' + 2 * i' := h3
      revert h
      cases δ <;> cases δ' <;> intro h <;> simp only [barDuty] at h <;> first | exact ⟨rfl, by omega⟩ | (exfalso; omega)
    obtain ⟨rfl, rfl⟩ := hδ
    exact ⟨(shift δ).symm.injective hc, rfl, rfl, rfl⟩
  · obtain ⟨hδ, hj⟩ := Cell.send.inj hk
    have h : i / 2 = i' / 2 := h2
    have := slotOf_inj hj
    exact ⟨hc, hδ, rfl, by omega⟩
  · obtain ⟨rfl, hj⟩ := Cell.recv.inj hk
    have h : i / 2 = i' / 2 := h2
    have := slotOf_inj hj
    exact ⟨(shift δ).injective hc, rfl, rfl, by omega⟩
  · obtain rfl := Cell.cred.inj hk
    exact ⟨(shift δ).symm.injective hc, rfl, rfl, h3⟩

def payEmb : (Dev nD × Bool × Fin 4) × ℕ ↪ GSem nD τ sig × ℕ × ℕ :=
  ⟨fun x => payTok x.1.1 x.1.2.1 x.1.2.2 x.2, fun x y h => by
    obtain ⟨h1, h2, h3, h4⟩ := payTok_inj h
    exact Prod.ext (Prod.ext h1 (Prod.ext h2 h3)) h4⟩

/-- All tokens. -/
def ringToks : Finset (GSem nD τ sig × ℕ × ℕ) := ((Finset.univ : Finset (Dev nD × Bool × Fin 4)) ×ˢ Finset.Ico 0 15).map payEmb

/-- The tokens of the duties device `c` pays in a direction. -/
def dirToks (δ : Bool) (c : Dev nD) : sProp 𝕄 :=
  bigSep Finset.univ fun q : Fin 4 => bigSep (Finset.Ico 0 15) fun i =>
    dutyTok ER (payTok c δ q i).1 (payTok c δ q i).2.1 (payTok c δ q i).2.2

/-- All tokens are what the devices hold, each for its two directions. -/
theorem toks_deal : bigSep ringToks (fun x => (dutyTok ER x.1 x.2.1 x.2.2 : sProp 𝕄))
    = bigSep Finset.univ fun c : Dev nD => bigSep Finset.univ fun δ : Bool => dirToks δ c := by
  unfold ringToks
  rw [bigSep_map, SparseCore.bigSep_product, bigSep_univ_prod]
  exact bigSep_congr fun c _ => by rw [bigSep_univ_prod]; rfl

/-- The right to write the slots of the neighbour a direction goes to. -/
def dirWrites (δ : Bool) (c : Dev nD) : sProp 𝕄 :=
  bigSep (Finset.Ico 0 15) fun i => Release.writeTok ES (dst δ c, δ, slotOf (i + 1)) (i / 2 + 1)

def wrEmb : (Dev nD × Bool) × ℕ ↪ Key × ℕ :=
  ⟨fun x => ((dst x.1.2 x.1.1, x.1.2, slotOf (x.2 + 1)), x.2 / 2), fun ⟨⟨c, δ⟩, i⟩ ⟨⟨c', δ'⟩, i'⟩ h => by
    have hδ : δ = δ' := congrArg (fun x : Key × ℕ => x.1.2.1) h
    subst hδ
    have hc : c = c' := (shift δ).injective (congrArg (fun x : Key × ℕ => x.1.1) h)
    have h1 : (i + 1) % 2 = (i' + 1) % 2 := slotOf_inj (congrArg (fun x : Key × ℕ => x.1.2.2) h)
    have h2 : i / 2 = i' / 2 := congrArg (fun x : Key × ℕ => x.2) h
    have hi : i = i' := by omega
    rw [hc, hi]⟩

/-- The rights to write all slots are enough for every device's two directions. -/
theorem writes_deal : bigSep ((Finset.univ : Finset Key) ×ˢ Finset.range 8) (fun x => (Release.writeTok ES x.1 (x.2 + 1) : sProp 𝕄))
    ⊢ bigSep Finset.univ fun c : Dev nD => bigSep Finset.univ fun δ : Bool => dirWrites δ c := by
  have hsub : ((Finset.univ : Finset (Dev nD × Bool)) ×ˢ Finset.Ico 0 15).map wrEmb ⊆ (Finset.univ : Finset Key) ×ˢ Finset.range 8 := by
    intro x hx
    obtain ⟨y, hy, rfl⟩ := Finset.mem_map.mp hx
    have h := Finset.mem_Ico.mp (Finset.mem_product.mp hy).2
    refine Finset.mem_product.mpr ⟨Finset.mem_univ _, Finset.mem_range.mpr ?_⟩
    show y.2 / 2 < 8
    omega
  have h : bigSep (((Finset.univ : Finset (Dev nD × Bool)) ×ˢ Finset.Ico 0 15).map wrEmb) (fun x => (Release.writeTok ES x.1 (x.2 + 1) : sProp 𝕄))
      = bigSep Finset.univ fun c : Dev nD => bigSep Finset.univ fun δ : Bool => dirWrites δ c := by
    rw [bigSep_map, SparseCore.bigSep_product, bigSep_univ_prod]; rfl
  rw [← h]
  exact BI.bigSep_subset hsub

/-- What the launch deals device `c` for its own use: where its cells stand, its slots' counts, what it writes, what it pays. -/
def linear (c : Dev nD) : sProp 𝕄 :=
  iprop((bigSep Finset.univ fun k : Cell => atPos ER (cell k c) 0 ∅ 0)
    ∗ (bigSep Finset.univ fun x : Bool × Fin 2 => Release.readerAt ES (c, x.1, x.2) 0)
    ∗ (bigSep Finset.univ fun δ : Bool => dirWrites δ c)
    ∗ (bigSep Finset.univ fun δ : Bool => dirToks δ c))

/-- Over the two directions, one by one. -/
theorem bigSep_bool (Φ : Bool → sProp 𝕄) : bigSep Finset.univ Φ = iprop(Φ true ∗ Φ false) :=
  bigSep_univ_eq_bigSepL [true, false] (by decide) (by decide) Φ
/-- Over the four slots of a device, one by one. -/
theorem bigSep_slots (Φ : Bool × Fin 2 → sProp 𝕄) : bigSep Finset.univ Φ = iprop(Φ (true, 0) ∗ Φ (true, 1) ∗ Φ (false, 0) ∗ Φ (false, 1)) :=
  bigSep_univ_eq_bigSepL [(true, 0), (true, 1), (false, 0), (false, 1)] (by decide) (by decide) Φ
/-- Over the four kinds of duty, one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- One direction's share, put in the order of the steps. -/
theorem dirIn_intro (δ : Bool) (c : Dev nD) :
    iprop((Release.readerAt ES (c, δ, 0) 0 ∗ Release.readerAt ES (c, δ, 1) 0)
        ∗ (atPos ER (cell (.recv δ 0) c) 0 ∅ 0 ∗ atPos ER (cell (.recv δ 1) c) 0 ∅ 0 ∗ atPos ER (cell (.send δ 0) c) 0 ∅ 0
          ∗ atPos ER (cell (.send δ 1) c) 0 ∅ 0) ∗ atPos ER (cell (.cred δ) c) 0 ∅ 0
        ∗ dirWrites δ c ∗ dirToks δ c ∗ dirCreds δ c)
      ⊢ (dirIn δ c : sProp 𝕄) := by
  have h0 : (bigSep (Finset.Ico 0 15) fun i => (dutyTok ER (payTok c δ 0 i).1 (payTok c δ 0 i).2.1 (payTok c δ 0 i).2.2 : sProp 𝕄))
      ⊢ dutyTok ER (cell .bar (src δ c)) 0 (barDuty δ) :=
    bigSep_elim (i := 0) (by decide)
  have h3 : (bigSep (Finset.Ico 0 15) fun i => (dutyTok ER (payTok c δ 3 i).1 (payTok c δ 3 i).2.1 (payTok c δ 3 i).2.2 : sProp 𝕄))
      ⊢ bigSep (Finset.Ico 0 14) fun i => dutyTok ER (cell (.cred δ) (src δ c)) 0 i :=
    BI.bigSep_subset (by decide)
  unfold dirIn dirToks dirWrites dirCreds sendToks credToks credits credAt sendTok
  rw [bigSep_four, bigSep_sep', bigSep_sep', bigSep_sep']
  iintro ⟨⟨H0, H1⟩, Hpos, Hc, Hw, ⟨Hq0, Hq1, Hq2, Hq3⟩, Hrc, Hcc⟩
  isplitl [H0 H1 Hpos Hq0]
  · isplitl [H0]; · iexact H0
    isplitl [H1]; · iexact H1
    isplitl [Hq0]
    · iapply h0; iexact Hq0
    iexact Hpos
  isplitl [Hw Hq1 Hq2 Hrc]
  · isplitl [Hw]; · iexact Hw
    isplitl [Hq1]; · iexact Hq1
    isplitl [Hq2]; · iexact Hq2
    iexact Hrc
  isplitl [Hq3]
  · iapply h3; iexact Hq3
  isplitl [Hc]
  · iexists ∅
    isplitr; · ipureintro; exact ⟨Finset.empty_subset _, le_rfl⟩
    isplitl [Hc]; · iexact Hc
    rw [bigSep_empty]; iempintro
  iexact Hcc

end Cert.RingProof

end
-- ==== Proof.Launch.lean ====
/-
# The run

The launch theorem applied: from any memory with all counters at zero, every device runs its body, and every final state holds in
the result arrays what the body leaves, in the arguments what they held, and zero in every counter.
-/
module

public import proofs.«01_k».proof.Proof.Deal
public import Idealize.ShloMosaic.Lib.Pipeline.CollectiveSegs

@[expose] public section

set_option maxRecDepth 4000

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Names)

variable (ρ : Dev nD → PrngReg)

/-! ## The kernel's own semaphores -/

/-- The cells of the kernel's own semaphores: all but the barrier. -/
abbrev ownCell : Fin 10 → Cell
  | 0 => .send true 0 | 1 => .send true 1 | 2 => .send false 0 | 3 => .send false 1
  | 4 => .recv true 0 | 5 => .recv true 1 | 6 => .recv false 0 | 7 => .recv false 1
  | 8 => .cred true | 9 => .cred false

abbrev osem : Fin 10 → SemLoc sig := fun i => csem (ownCell i)

/-- The kernel's own semaphores are ten different ones, none of them staging's. -/
theorem ownSemFacts : Pipeline.OwnSemFacts cfg0.spec osem := by decide

/-- Every window is held in full. -/
theorem share_eq (c : Dev nD) (w : Fin cfg0.W) : (dats m ρ 0 c).share w = fullShare := by unfold Dat.share; split <;> rfl

/-- The own semaphores at zero, one by one. -/
theorem ownSems0_eq (c : Dev nD) : (Pipeline.ownSems0 (Ix := ℕ) (Name := ℕ) (U := UU) (Lvl := ℕ) (Val := Elt F) (τ := τ) osem c : sProp 𝕄)
    = iprop(semVal (cell (.send true 0) c) 0 ∗ semVal (cell (.send true 1) c) 0 ∗ semVal (cell (.send false 0) c) 0 ∗ semVal (cell (.send false 1) c) 0
      ∗ semVal (cell (.recv true 0) c) 0 ∗ semVal (cell (.recv true 1) c) 0 ∗ semVal (cell (.recv false 0) c) 0 ∗ semVal (cell (.recv false 1) c) 0
      ∗ semVal (cell (.cred true) c) 0 ∗ semVal (cell (.cred false) c) 0) := by
  rw [Pipeline.ownSems0_eq_of_list c osem [0, 1, 2, 3, 4, 5, 6, 7, 8, 9] (by decide) (by decide)]; rfl

/-- The one semaphore outside the call is the barrier. -/
theorem unscopedSems0_eq (c : Dev nD) : (unscopedSems0 c : sProp 𝕄) = semVal (cell .bar c) 0 := by
  unfold unscopedSems0; rw [bigSep_eq_bigSepL_of_eq [SemLoc.reg barS] (by decide) (by decide)]; rfl

/-- The cells of a device: the launch's unscoped semaphore and the kernel's own. -/
theorem zeros_eq (c : Dev nD) :
    (zeros c : sProp 𝕄) = iprop(unscopedSems0 c ∗ Pipeline.ownSems0 (Ix := ℕ) (Name := ℕ) (U := UU) (Lvl := ℕ) (Val := Elt F) (τ := τ) osem c) := by
  unfold zeros
  rw [bigSep_cells, ownSems0_eq, unscopedSems0_eq]

/-! ## The ghost state -/

def u₀ : UU :=
  (initOf (Pipeline.cells cfgs cellOf_inj) (Pipeline.launchToks cfgs cellOf_inj), (initOf ringCells ringToks, Release.initSlots (Finset.univ : Finset Key) 8))

/-- The slots' ghost state, dealt to device 0 for the global step. -/
def slotSeed (c : Dev nD) : sProp 𝕄 := if c = 0 then BI.own (ES (Release.initSlots (Finset.univ : Finset Key) 8)) else iprop(emp)

/-- What the launch element deals device `c`. -/
def G (c : Dev nD) : sProp 𝕄 :=
  iprop((bigSep Finset.univ fun k : Cell => roundState ER (ringRd m) (cell k c) 0)
    ∗ (bigSep Finset.univ fun k : Cell => reached ER (cell k c) 0)
    ∗ (bigSep Finset.univ fun k : Cell => atPos ER (cell k c) 0 ∅ 0)
    ∗ (bigSep Finset.univ fun δ : Bool => dirToks δ c)
    ∗ slotSeed c)

/-- The records that every device holds, without the levels. -/
def records (K : Names) : sProp 𝕄 :=
  iprop((bigSep Finset.univ fun ck : Dev nD × Cell => cellInv ER (ringRd m) (K.cells ck) (cell ck.2 ck.1))
    ∗ (bigSep Finset.univ fun ck : Dev nD × Cell => reached ER (cell ck.2 ck.1) 0)
    ∗ (bigSep Finset.univ fun k : Key => Release.slotInv ES (K.slots k) k (slotRes k)))

instance records_persistent (K : Names) : BI.Persistent (records m K) := by unfold records; infer_instance

/-- What the global step makes of it. -/
def G' (c : Dev nD) : sProp 𝕄 := iprop(∃ K : Names, records m K ∗ linear c)

/-- Over all cells is over the devices and over each one's cells. -/
theorem ring_cells (Φ : GSem nD τ sig → sProp 𝕄) :
    bigSep ringCells Φ = bigSep Finset.univ fun c : Dev nD => bigSep Finset.univ fun k : Cell => Φ (cell k c) := by
  unfold ringCells; rw [bigSep_map, bigSep_univ_prod]; rfl

/-- The slots' seed lies with one device. -/
theorem slotSeed_all : (bigSep Finset.univ slotSeed : sProp 𝕄) = BI.own (ES (Release.initSlots (Finset.univ : Finset Key) 8)) := by
  rw [bigSep_univ_at _ (0 : Dev nD), bigSep_congr (s := Finset.univ.erase (0 : Dev nD)) (Ψ := fun _ => (BI.emp : sProp 𝕄))
    fun c hc => by unfold slotSeed; rw [if_neg (Finset.ne_of_mem_erase hc)]; rfl]
  rw [BI.bigSep_emp_const]
  unfold slotSeed
  rw [if_pos rfl]
  exact equiv_iff.mp BI.sep_emp

/-- The initial ghost state funds what each device takes into the global step. -/
theorem fund_ring : BI.own (EX (initOf ringCells ringToks, Release.initSlots (Finset.univ : Finset Key) 8)) ⊢ (|==> bigSep Finset.univ (G m) : sProp 𝕄) := by
  iintro HX
  ihave HX := (own_pair_emb EX (initOf ringCells ringToks) (Release.initSlots (Finset.univ : Finset Key) 8)) $$ HX
  icases HX with ⟨HR, HS⟩
  imod (Rounds.fund ER (ringRd m) ringCells ringToks) $$ HR with ⟨Hst, Hr, Hat, Htok⟩
  imodintro
  ihave Hst := (Entails.of_eq (ring_cells fun g => roundState ER (ringRd m) g 0)) $$ Hst
  ihave Hr := (Entails.of_eq (ring_cells fun g => reached ER g 0)) $$ Hr
  ihave Hat := (Entails.of_eq (ring_cells fun g => atPos ER g 0 ∅ 0)) $$ Hat
  ihave Htok := (Entails.of_eq toks_deal) $$ Htok
  ihave HS := (Entails.of_eq slotSeed_all.symm) $$ HS
  unfold G; simp only [bigSep_sep']
  isplitl [Hst]; · iexact Hst
  isplitl [Hr]; · iexact Hr
  isplitl [Hat]; · iexact Hat
  isplitl [Htok]; · iexact Htok
  iexact HS

/-! ## The global step -/

/-- The cells of one device get their invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (ringRd m) κ (cell k c)))
          ∗ (bigSep Finset.univ fun k : Cell => reached ER (cell k c) 0)
          ∗ (bigSep Finset.univ fun k : Cell => atPos ER (cell k c) 0 ∅ 0)
          ∗ (bigSep Finset.univ fun δ : Bool => dirToks δ c)
          ∗ slotSeed c) := by
  unfold G
  iintro ⟨Hos, Hus, Hst, Hrest⟩
  ihave Hv := (Entails.of_eq (zeros_eq (F := F) c).symm) $$ [Hos Hus]
  · isplitl [Hus] <;> iassumption
  imod (show iprop(zeros c ∗ bigSep Finset.univ fun k : Cell => roundState ER (ringRd m) (cell k c) 0)
      ⊢ (|={Set.univ}=> bigSep Finset.univ fun k : Cell => iprop(∃ κ : ℕ, cellInv ER (ringRd m) κ (cell k c)) : sProp 𝕄) from by
        unfold zeros
        rw [← bigSep_sep']
        exact (bigSep_mono fun k _ => (Rounds.body_intro ER (ringRd m) (cell k c)).trans inv_alloc).trans (bigSep_fupd _ _)) $$ [Hv Hst] with Hinv
  · isplitl [Hv] <;> iassumption
  imodintro
  isplitl [Hinv]; · iexact Hinv
  iexact Hrest

/-- Persistent records beside what each device holds. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and a device's own share are what the global step makes. -/
theorem G'_intro (K : Names) (c : Dev nD) : iprop(records m K ∗ linear c) ⊢ G' m c := by
  unfold G'
  iintro H
  iexists K; iexact H

/-- Over all slots is over the devices and over each one's slots. -/
theorem keys_split (Φ : Key → sProp 𝕄) :
    bigSep Finset.univ Φ = bigSep Finset.univ fun c : Dev nD => bigSep Finset.univ fun x : Bool × Fin 2 => Φ (c, x.1, x.2) := by
  rw [bigSep_univ_prod]

/-- The devices' parts together: the invariants' names are chosen, the slots get theirs, and each device takes its share. -/
theorem regroup :
    (bigSep Finset.univ fun c : Dev nD => iprop((bigSep Finset.univ fun k : Cell => iprop(∃ κ : ℕ, cellInv ER (ringRd m) κ (cell k c)))
          ∗ (bigSep Finset.univ fun k : Cell => reached ER (cell k c) 0)
          ∗ (bigSep Finset.univ fun k : Cell => atPos ER (cell k c) 0 ∅ 0)
          ∗ (bigSep Finset.univ fun δ : Bool => dirToks δ c)
          ∗ slotSeed c) : sProp 𝕄)
      ⊢ |={Set.univ}=> bigSep Finset.univ (G' m) := by
  rw [bigSep_sep', bigSep_sep', bigSep_sep', bigSep_sep', slotSeed_all,
    ← bigSep_univ_prod (fun ck : Dev nD × Cell => (iprop(∃ κ : ℕ, cellInv ER (ringRd m) κ (cell ck.2 ck.1)) : sProp 𝕄)),
    ← bigSep_univ_prod (fun ck : Dev nD × Cell => (reached ER (cell ck.2 ck.1) 0 : sProp 𝕄))]
  iintro ⟨HI, #HR, Hat, Htok, HS⟩
  ihave HK := (BI.bigSep_exists_pi Finset.univ (fun (ck : Dev nD × Cell) (κ : ℕ) => (cellInv ER (ringRd m) κ (cell ck.2 ck.1) : sProp 𝕄))) $$ HI
  icases HK with ⟨%Kc, #HI⟩
  imod (Release.slots_init ES (Finset.univ : Finset Key) 8 (fun k => slotRes k)) $$ HS with ⟨%Ks, -, #HSI, Hrd, Hwr⟩
  imodintro
  ihave Hwr := (writes_deal (F := F)) $$ Hwr
  ihave Hrd := (Entails.of_eq (keys_split fun k => Release.readerAt ES k 0)) $$ Hrd
  iapply (bigSep_with (R := records m ⟨Kc, Ks⟩) fun c _ => G'_intro m ⟨Kc, Ks⟩ c)
  isplitr
  · unfold records
    isplitr; · iexact HI
    isplitr; · iexact HR
    iexact HSI
  · unfold linear
    rw [bigSep_sep', bigSep_sep', bigSep_sep']
    isplitl [Hat]; · iexact Hat
    isplitl [Hrd]; · iexact Hrd
    isplitl [Hwr]; · iexact Hwr
    iexact Htok

/-- The global step: the semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have h : (iprop(|={Set.univ}=> |={Set.univ}=> bigSep Finset.univ (G' m)) : sProp 𝕄) ⊢ |={Set.univ}=> bigSep Finset.univ (G' m) := by
    iintro H
    imod H
    iexact H
  exact (((bigSep_mono fun c _ => core_alloc m c).trans (bigSep_fupd _ _)).trans (BI.fupd_mono (regroup m))).trans h

/-! ## The launch theorem's side conditions -/

/-- A device's share and its credits are what it starts with. -/
theorem linear_start (c : Dev nD) :
    iprop(linear c ∗ cred (tallyAt (cell .bar c) 0 2) ∗ dirCreds true c ∗ dirCreds false c)
      ⊢ (iprop(dirIn true c ∗ dirIn false c ∗ cred (tallyAt (cell .bar c) 0 2) ∗ atPos ER (cell .bar c) 0 ∅ 0) : sProp 𝕄) := by
  unfold linear
  rw [bigSep_cells, bigSep_slots, bigSep_bool, bigSep_bool]
  iintro ⟨⟨⟨Hb, Hst0, Hst1, Hsf0, Hsf1, Hrt0, Hrt1, Hrf0, Hrf1, Hct, Hcf⟩, ⟨Ht0, Ht1, Hf0, Hf1⟩, ⟨Hwt, Hwf⟩, Hkt, Hkf⟩, Hcb, Hdt, Hdf⟩
  isplitl [Ht0 Ht1 Hrt0 Hrt1 Hst0 Hst1 Hct Hwt Hkt Hdt]
  · iapply (dirIn_intro true c)
    isplitl [Ht0 Ht1]; · isplitl [Ht0] <;> iassumption
    isplitl [Hrt0 Hrt1 Hst0 Hst1]
    · isplitl [Hrt0]; · iexact Hrt0
      isplitl [Hrt1]; · iexact Hrt1
      isplitl [Hst0] <;> iassumption
    isplitl [Hct]; · iexact Hct
    isplitl [Hwt]; · iexact Hwt
    isplitl [Hkt] <;> iassumption
  isplitl [Hf0 Hf1 Hrf0 Hrf1 Hsf0 Hsf1 Hcf Hwf Hkf Hdf]
  · iapply (dirIn_intro false c)
    isplitl [Hf0 Hf1]; · isplitl [Hf0] <;> iassumption
    isplitl [Hrf0 Hrf1 Hsf0 Hsf1]
    · isplitl [Hrf0]; · iexact Hrf0
      isplitl [Hrf1]; · iexact Hrf1
      isplitl [Hsf0] <;> iassumption
    isplitl [Hcf]; · iexact Hcf
    isplitl [Hwf]; · iexact Hwf
    isplitl [Hkf] <;> iassumption
  isplitl [Hcb] <;> iassumption

/-- The records and the levels are what every statement may use. -/
theorem records_ctx (K : Names) : iprop(records m K ∗ levAts L lv) ⊢ ctx m K := by
  unfold records ctx
  iintro ⟨⟨H1, H2, H3⟩, H4⟩
  isplitl [H1]; · iexact H1
  isplitl [H2]; · iexact H2
  isplitl [H3] <;> iassumption

/-- What a device has at launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, ⟨%K, Hrec, Hlin⟩⟩
  ihave Hc := (launch_creds (F := F) c) $$ Hcr
  imodintro
  isplitl
  · iexists K
    isplitl [Hrec Hlev]
    · iapply (records_ctx m K); isplitl [Hrec] <;> iassumption
    iapply (linear_start c)
    isplitl [Hlin] <;> iassumption
  · iempintro

/-- The start and the scratch buffers are the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

/-- The state after the body gives the semaphores and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [zeros_eq]
  iintro ⟨Hr, Hu, Ho⟩
  isplitl [Hu]; · iexact Hu
  isplitl [Ho] <;> iassumption

/-- A staging semaphore is none of the protocol's cells. -/
theorem kind_stage : ∀ (w : Fin (cfgs 0).W) (s : Fin ((cfgs 0).win w).nbuf), kind (.dma (((cfgs 0).win w).sem s)) = none := by decide

/-- A device may wait on its staging semaphores at any time. -/
theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    Above.mayWait (i := 0) (b := 0) (by decide) (by unfold lv; rw [kind_stage w s]; exact le_rfl) (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters: every weakly fair execution of the sixteen devices terminates, and
    every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold after the run what they held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The second argument likewise. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Frames.lean ====
/- The frames: from any memory with zero counters, each program runs, its two argument arrays end as they began, and every
   counter ends at zero. The kernel's run is written once, for any float values (`run_main`, Launch.lean); both the kernel and
   its idealization take it. -/
module

public import proofs.«01_k».proof.Defs
public import proofs.«01_k».proof.Proof.Gen.Kernel
public import proofs.«01_k».proof.Proof.Gen.ReferenceIdeal.Run
public import proofs.«01_k».proof.Proof.Launch
public import Idealize.ShloMosaic.Adequacy
public import Idealize.ShloMosaic.Init

@[expose] public section

noncomputable section

namespace Cert.Proof

open Idealize.ShloMosaic Idealize.SL.Sem Cert.Kernel.Gen Cert.KernelIdeal.Gen Cert.ReferenceIdeal.Gen

/-- The run, at any float values, read at the two argument arrays and the counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c (0 : Fin 3)).trans (Cert.RingProof.finalA_x m ρ c),
    (h.1 c (1 : Fin 3)).trans (Cert.RingProof.finalA_w m ρ c)⟩, h.2⟩)
    (Cert.RingProof.run_main m ρ)

/-- The idealization's frame: the run at the ideal floats. -/
theorem frame_kernelIdeal : Cert.quiescent_KernelIdeal := fun m ρ _ => frame_any m ρ

set_option smartUnfolding false in
set_option maxRecDepth 65536 in
/-- The kernel's frame: the same run at the bit-exact floats; no operation was rewritten, so the two programs are one text. -/
theorem frame_kernel : Cert.quiescent_Kernel := fun m ρ _ => frame_any (F := Bits) m ρ

/-- The reference's frame: it is a straight line of host operations and has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Blocks.lean ====
/- What one block computes, over the extended reals: the partial product, the sum a device forwards, the last sum with its relu. -/
module

public import proofs.«01_k».proof.Proof.Gen.KernelIdeal.Skeleton
public import Idealize.ShloMosaic.Lib.MatmulPlain
public import Idealize.ShloMosaic.Lib.ValueIdx
public import Idealize.ShloMosaic.Lib.Pipeline.Value

@[expose] public section

set_option maxRecDepth 4000

noncomputable section

namespace Cert.RingProof

open Cert.KernelIdeal Cert.KernelIdeal.Gen Idealize.ShloMosaic Idealize.ShloMosaic.ValueIdx
open scoped BigOperators

/-- The entry of the product of a block of rows and a block of columns. -/
def entry (x : Vec Ideal S256x256 .f32) (w : Vec Ideal S256x4096 .f32) (r : Fin 256) (j : Fin 4096) : EReal :=
  ∑ k : Fin 256, x (ix2 r k) * w (ix2 k j)

/-- The partial product, at an entry. -/
theorem pay5_apply (x : Vec Ideal S256x256 .f32) (w : Vec Ideal S256x4096 .f32) (r : Fin 256) (j : Fin 4096) :
    k0_pay5 x w (ix2 r j) = entry x w r j := by
  unfold k0_pay5
  rw [shapeCast_self, shapeCast_self]
  refine (Ideal.matmul_plain_apply none x w _ r j).trans ?_
  rw [constant_apply, Ideal.ofBits_zero_f32, zero_add]
  rfl

/-- An index of a block of one slot, its leading coordinate dropped. -/
theorem tail_ix3 (r : Fin 256) (j : Fin 4096) : (fun a : Fin 2 => (ix3 (n0 := 1) 0 r j) a.succ) = ix2 r j := by
  funext a; match a with | ⟨0, _⟩ => rfl | ⟨1, _⟩ => rfl

/-- and put back. -/
theorem cons_ix2 (r : Fin 256) (j : Fin 4096) : (Fin.cons ⟨0, Nat.one_pos⟩ (ix2 r j) : S1x256x4096.Idx) = ix3 0 r j := by
  funext a; match a with | ⟨0, _⟩ => rfl | ⟨1, _⟩ => rfl | ⟨2, _⟩ => rfl

/-- Adding the leading unit axis. -/
theorem addUnit_apply (v : S256x4096.Idx → EReal) (h : S256x4096.ShapeCasts S1x256x4096) (r : Fin 256) (j : Fin 4096) :
    shapeCast S1x256x4096 v h (ix3 0 r j) = v (ix2 r j) :=
  (shapeCast_addUnit_apply ![256, 4096] v h (ix3 0 r j)).trans (congrArg v (tail_ix3 r j))

/-- Dropping it. -/
theorem dropUnit_apply (v : S1x256x4096.Idx → EReal) (h : S1x256x4096.ShapeCasts S256x4096) (r : Fin 256) (j : Fin 4096) :
    shapeCast S256x4096 v h (ix2 r j) = v (ix3 0 r j) :=
  (shapeCast_dropUnit_apply ![256, 4096] v h (ix2 r j)).trans (congrArg v (cons_ix2 r j))

/-- The first block a device sends is its partial product. -/
theorem pay3_apply (x : Vec Ideal S256x256 .f32) (w : Vec Ideal S256x4096 .f32) (r : Fin 256) (j : Fin 4096) :
    k0_pay3 x w (ix3 0 r j) = entry x w r j :=
  (addUnit_apply _ _ r j).trans (pay5_apply x w r j)

/-- A later one is what it received plus its partial product. -/
theorem pay7_apply (p : FVec Ideal S256x4096 .f32) (a : Vec Ideal S1x256x4096 .bf16) (r : Fin 256) (j : Fin 4096) :
    k0_pay7 p a (ix3 0 r j) = (a (ix3 0 r j) : EReal) + p (ix2 r j) := by
  unfold k0_pay7
  refine (addUnit_apply _ _ r j).trans ?_
  rw [truncf_apply, addf_apply, extf_apply, dropUnit_apply]

/-- The result is that sum once more, and no less than zero. -/
theorem pay2_apply (p : FVec Ideal S256x4096 .f32) (a : Vec Ideal S1x256x4096 .bf16) (r : Fin 256) (j : Fin 4096) :
    k0_pay2 p a (ix2 r j) = max ((a (ix3 0 r j) : EReal) + p (ix2 r j)) 0 := by
  unfold k0_pay2
  rw [maximumf_apply, addf_apply, extf_apply, broadcast_apply, dropUnit_apply]
  exact congrArg (max _) Ideal.ofBits_zero_f32

end Cert.RingProof

end
-- ==== Proof.RingSum.lean ====
/- The sums the ring forms, over the extended reals: what a device sends at step `s` is the sum, over itself and the `s` devices
   behind it, of their partial products for one block of rows; after the last step every device has been counted once. -/
module

public import proofs.«01_k».proof.Proof.Blocks
public import proofs.«01_k».proof.Proof.Protocol

@[expose] public section

set_option maxRecDepth 4000

noncomputable section

namespace Cert.RingProof

open Cert.KernelIdeal Cert.KernelIdeal.Gen Idealize.ShloMosaic Idealize.ShloMosaic.TcCoe Idealize.ShloMosaic.ValueIdx
open scoped BigOperators

/-! ## The devices behind one -/

/-- The device `t` places behind. -/
def hop (δ : Bool) (t : ℕ) (c : Dev nD) : Dev nD := (src δ)^[t] c

/-- No place behind is the device itself. -/
theorem hop_zero (δ : Bool) (c : Dev nD) : hop δ 0 c = c := rfl
/-- One place behind the neighbour that is behind. -/
theorem hop_succ (δ : Bool) (t : ℕ) (c : Dev nD) : hop δ (t + 1) c = hop δ t (src δ c) := rfl

/-- In one direction `t` places behind is 15 `t` further, -/
theorem hop_true (t : ℕ) (c : Dev nD) : (hop true t c).val = (c.val + 15 * t) % 16 := by
  induction t generalizing c with
  | zero => exact (Nat.mod_eq_of_lt c.isLt).symm
  | succ t ih =>
    rw [hop_succ, ih]
    show ((c.val + 15) % 16 + 15 * t) % 16 = _
    omega
/-- in the other it is `t` further. -/
theorem hop_false (t : ℕ) (c : Dev nD) : (hop false t c).val = (c.val + t) % 16 := by
  induction t generalizing c with
  | zero => exact (Nat.mod_eq_of_lt c.isLt).symm
  | succ t ih =>
    rw [hop_succ, ih]
    show ((c.val + 1) % 16 + t) % 16 = _
    omega

/-- Sixteen places behind a device is the device. -/
theorem hop_all (δ : Bool) (c : Dev nD) : hop δ 16 c = c := by
  have hc : c.val < 16 := c.isLt
  refine Fin.ext ?_
  cases δ
  · rw [hop_false]; omega
  · rw [hop_true]; omega

/-- The sixteen devices behind a device, itself the first, are all the devices. -/
theorem hop_inj (δ : Bool) (c : Dev nD) : Function.Injective fun t : Fin 16 => hop δ t.val c := by
  intro a b h
  have hv : (hop δ a.val c).val = (hop δ b.val c).val := congrArg Fin.val h
  have ha := a.isLt; have hb := b.isLt; have hc : c.val < 16 := c.isLt
  refine Fin.ext ?_
  cases δ
  · rw [hop_false, hop_false] at hv; omega
  · rw [hop_true, hop_true] at hv; omega

/-- So a sum over the places behind is the sum over the devices. -/
theorem sum_hop (δ : Bool) (c : Dev nD) (f : Dev nD → EReal) : ∑ t ∈ Finset.range 16, f (hop δ t c) = ∑ d : Fin 16, f d := by
  rw [Finset.sum_range]
  exact Fintype.sum_bijective (fun t : Fin 16 => hop δ t.val c) ((Finite.injective_iff_bijective).mp (hop_inj δ c)) _ _ fun _ => rfl

/-! ## What is sent, and what is kept -/

variable (m : (ℓ : Loc nD τ sig) → Buf (Elt Ideal) ℓ)

/-- Row `r` of the rows that begin at `256 b`. -/
def rowIx (b : Dev nD) (r : Fin 256) : Fin 4096 := ⟨256 * b.val + r.val, by have h : b.val < 16 := b.isLt; omega⟩

/-- An entry of a device's `x`. -/
def xAt (d : Dev nD) (i : Fin 4096) (k : Fin 256) : EReal := xstg m d (ix2 i k)

/-- An entry of a direction's columns of a device's `w`. -/
def wAt (δ : Bool) (d : Dev nD) (k : Fin 256) (j : Fin 4096) : EReal := wCols m δ d (ix2 k j)

/-- The entry of a device's partial product for the rows that begin at `256 b`. -/
def share (δ : Bool) (d b : Dev nD) (r : Fin 256) (j : Fin 4096) : EReal :=
  ∑ k : Fin 256, xAt m d (rowIx b r) k * wAt m δ d k j

/-- Rows loaded from offset `256 b` are those rows. -/
theorem rows_apply (d b : Dev nD) (off : Fin 2 → ℕ) (inb : ∀ a, off a + S256x256.size a ≤ S4096x256.size a) (hoff : off = ![256 * b.val, 0]) (r k : Fin 256) :
    xM.view.readAt (Elt Ideal) (Rect.unit (s := S4096x256) off S256x256.size inb).toLoadRect (xstg m d) (ix2 r k) = xAt m d (rowIx b r) k := by
  subst hoff
  refine congrArg (xstg m d) (funext fun a => Fin.ext ?_)
  match a with
  | ⟨0, _⟩ => show 256 * b.val + 1 * r.val = 256 * b.val + r.val; rw [Nat.one_mul]
  | ⟨1, _⟩ => show 0 + 1 * k.val = k.val; omega

/-- The first rows read are those of the device one place behind, -/
theorem offI_hop (δ : Bool) (c : Dev nD) : offI δ c = ![256 * (hop δ 1 c).val, 0] := by
  cases δ
  · rw [hop_false]; exact k0_off2_eq c
  · rw [hop_true]; exact k0_off1_eq c

/-- and those of step `s` are those of the device `s + 2` places behind. -/
theorem offS_hop (δ : Bool) (c : Dev nD) (s : Fin 15) : offS δ c s = ![256 * (hop δ (s.val + 2) c).val, 0] := by
  have hs := s.isLt; have hc : c.val < 16 := c.isLt
  cases δ
  · rw [hop_false]; exact (k0_off4_eq c s).trans (by congr 2)
  · rw [hop_true]; refine (k0_off3_eq c s).trans ?_
    congr 2; omega

/-- The product made before the ring starts is the share for the device one place behind. -/
theorem xInit_apply (δ : Bool) (c : Dev nD) (r : Fin 256) (j : Fin 4096) : entry (xInit m δ c) (wCols m δ c) r j = share m δ c (hop δ 1 c) r j :=
  Finset.sum_congr rfl fun k _ => congrArg (fun e : EReal => e * wAt m δ c k j) (rows_apply m c (hop δ 1 c) _ _ (offI_hop δ c) r k)

/-- The product made in step `s` is the share for the device `s + 2` places behind. -/
theorem part_apply (δ : Bool) (c : Dev nD) (s : Fin 15) (r : Fin 256) (j : Fin 4096) : part m δ c s (ix2 r j) = share m δ c (hop δ (s.val + 2) c) r j :=
  (pay5_apply _ _ r j).trans (Finset.sum_congr rfl fun k _ =>
    congrArg (fun e : EReal => e * wAt m δ c k j) (rows_apply m c (hop δ (s.val + 2) c) _ _ (offS_hop δ c s) r k))

/-- What a device sends at step `s`: the shares of itself and of the `s` devices behind it, for the rows of the device `s + 1` places behind. -/
theorem acc_apply (δ : Bool) (s : ℕ) (hs : s ≤ 14) (c : Dev nD) (r : Fin 256) (j : Fin 4096) :
    (acc m δ s c (ix3 0 r j) : EReal) = ∑ t ∈ Finset.range (s + 1), share m δ (hop δ t c) (hop δ (s + 1) c) r j := by
  induction s generalizing c with
  | zero =>
    rw [Finset.sum_range_one]
    exact (pay3_apply _ _ r j).trans (xInit_apply m δ c r j)
  | succ s ih =>
    rw [Finset.sum_range_succ']
    refine (pay7_apply _ _ r j).trans ?_
    rw [ih (by omega) (src δ c), part_apply]
    have h15 : (stepIx s).val = s := Nat.mod_eq_of_lt (by omega)
    rw [h15]
    rfl

/-- A direction's half of a device's result: the shares of all sixteen devices for its own rows, and no less than zero. -/
theorem outHalf_apply (δ : Bool) (c : Dev nD) (r : Fin 256) (j : Fin 4096) :
    outHalf m δ c (ix2 r j) = max (∑ d : Fin 16, share m δ d c r j) 0 := by
  refine (pay2_apply _ _ r j).trans (congrArg (max · 0) ?_)
  rw [acc_apply m δ 14 le_rfl, part_apply, ← sum_hop δ c fun d => share m δ d c r j]
  refine Eq.trans ?_ (Finset.sum_range_succ' (fun t => share m δ (hop δ t c) c r j) 15).symm
  show (∑ t ∈ Finset.range 15, share m δ (hop δ (t + 1) c) (hop δ 16 c) r j) + share m δ c (hop δ 16 c) r j = _
  rw [hop_all]
  rfl

end Cert.RingProof

end
-- ==== Proof.Result.lean ====
/- What the result array of a device holds in the end: the two halves of its columns, each as its direction left it. -/
module

public import proofs.«01_k».proof.Proof.Launch
public import Idealize.ShloMosaic.Lib.Pipeline.Value
public import Idealize.ShloMosaic.Lib.ValueIdxCore

@[expose] public section

set_option maxRecDepth 4000

noncomputable section

namespace Cert.RingProof

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ) (ρ : Dev nD → PrngReg)

/-! ## The windows' blocks are their arrays -/

/-- `x` as the body finds it is the array; -/
theorem xstg_eq (c : Dev nD) : xstg m c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) (m ((c : Thread nD τ).loc main_arg0))

/-- and so is `w`. -/
theorem wstg_eq (c : Dev nD) : wstg m c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) (m ((c : Thread nD τ).loc main_arg1))

/-- Block (0, 0) of the result array is the array. -/
theorem cut_out (c : Dev nD) (G : Buf (Elt F) ((c : Thread nD τ).loc main_v1)) :
    (cfg0.win (2 : Fin 3)).cut (grid0.coords t0_0) G = ((cfg0.win (2 : Fin 3)).blk t0_0).view.read (Elt F) G := by
  have hz : (fun a => win0_2.index (0 : Fin 1) a * main_v1.ty.shape.size a) = fun _ => 0 := funext fun a => by fin_cases a <;> decide
  exact (Memref.read_access_unit_zero (Elt F) main_v1 hz (fun a => by rw [congrFun hz a]; simp) G).symm

set_option maxRecDepth 65536 in
/-- The one write-back writes the result buffer, whole. -/
theorem flushed_out (c : Dev nD) (t : Fin cfg0.N) (hf : (cfg0.win (2 : Fin 3)).flush t = true) :
    (dats m ρ 0 c).flushed (2 : Fin 3) t = ((cfg0.win (2 : Fin 3)).blk t).view.read (Elt F) (outAt m c) := by
  obtain rfl : t = t0_0 := fin_N0 t
  exact cut_out c (outAt m c)

/-- So the result array ends holding it. -/
theorem finalA_out (c : Dev nD) : finalA m ρ c (2 : Fin 3) = outAt m c :=
  (dats m ρ 0 c).arrAt_eq_of_cover (2 : Fin 3) (outAt m c) (flushed_out m ρ c) fun i =>
    ⟨t0_0, flush0_2 t0_0, by
      show i ∈ ((View.whole main_v1).slice (win0_2.rect t0_0)).set
      rw [View.set_slice_whole, Rect.mem_set_unit]
      intro a
      have h0 : (i 0 : Nat) < 256 := (i 0).isLt
      have h1 : (i 1 : Nat) < 8192 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 256 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 8192 from by decide +kernel]; omega⟩

/-! ## The halves -/

/-- Where a direction's column `j` is. -/
def colIx : Bool → Fin 4096 → Fin 8192
  | true, j => ⟨j.val, by have := j.isLt; omega⟩
  | false, j => ⟨4096 + j.val, by have := j.isLt; omega⟩

/-- Every column is in one of the halves. -/
theorem colIx_surj (j : Fin 8192) : ∃ δ j', colIx δ j' = j := by
  by_cases h : j.val < 4096
  · exact ⟨true, ⟨j.val, h⟩, rfl⟩
  · exact ⟨false, ⟨j.val - 4096, by have := j.isLt; omega⟩, Fin.ext (show 4096 + (j.val - 4096) = j.val by omega)⟩

/-- A half's index, in the buffer. -/
theorem col_emb (δ : Bool) (r : Fin 256) (j : Fin 4096) : (oM.access (colR δ)).emb (ix2 r j) = ix2 r (colIx δ j) := by
  funext a
  refine Fin.ext ?_
  cases δ
  · match a with
    | ⟨0, _⟩ => show 0 + 1 * r.val = r.val; omega
    | ⟨1, _⟩ => show 4096 + 1 * j.val = 4096 + j.val; omega
  · match a with
    | ⟨0, _⟩ => show 0 + 1 * r.val = r.val; omega
    | ⟨1, _⟩ => show 0 + 1 * j.val = j.val; omega

/-- The same of a load from `w`. -/
theorem wCols_apply (δ : Bool) (c : Dev nD) (k : Fin 256) (j : Fin 4096) : wCols m δ c (ix2 k j) = wstg m c (ix2 k (colIx δ j)) :=
  congrArg (wstg m c) (col_emb δ k j)

/-- Each half of the result buffer is what its direction computed. -/
theorem outAt_apply (δ : Bool) (c : Dev nD) (r : Fin 256) (j : Fin 4096) : outAt m c (ix2 r (colIx δ j)) = outHalf m δ c (ix2 r j) := by
  unfold outAt
  cases δ
  · rw [← col_emb false r j, View.write_emb_of_mem _ _ (Finset.mem_univ _)]; rfl
  · rw [View.write_of_not_mem _ _ _ (fun h => by
      obtain ⟨x, -, hx⟩ := Finset.mem_map.mp h
      have h1 : 4096 + 1 * (x 1).val = j.val := congrArg (fun i : S256x8192.Idx => (i 1).val) hx
      have := j.isLt; omega),
      ← col_emb true r j, View.write_emb_of_mem _ _ (Finset.mem_univ _)]; rfl

end Cert.RingProof

end
-- ==== Proof.Whole.lean ====
/- The equation: what the reference computes at an entry of the whole result, and that the sixteen devices' shares are its one
   long contraction, cut into sixteen pieces of 256. -/
module

public import proofs.«01_k».proof.Proof.RingSum
public import proofs.«01_k».proof.Proof.Result
public import proofs.«01_k».proof.Proof.Gen.ReferenceIdeal.Run
public import Idealize.ShloMosaic.Lib.Layout
public import Idealize.ShloMosaic.Lib.StackMember

@[expose] public section

set_option maxRecDepth 4000

noncomputable section

namespace Cert.RingProof

open Cert.KernelIdeal Cert.KernelIdeal.Gen Idealize.ShloMosaic Idealize.ShloMosaic.TcCoe Idealize.ShloMosaic.ValueIdx
open scoped BigOperators

/-! ## The reference -/

/-- The reference's result, as its operations compute it. -/
def whole (X : FVec Ideal ⟨2, ![4096, 4096]⟩ .f32) (W : FVec Ideal ⟨2, ![4096, 8192]⟩ .f32) : FVec Ideal ⟨2, ![4096, 8192]⟩ .f32 :=
  maximumf (Host.dotGeneral Cert.ReferenceIdeal.dot_S4096x4096_S4096x8192_S4096x8192_1_0_0_1_n_n none X W)
    (broadcastInDim Cert.ReferenceIdeal.S4096x8192 ![] Cert.ReferenceIdeal.Gen.bcast_S_S4096x8192 (constant Cert.ReferenceIdeal.S_ .f32 0x00000000#32))

set_option maxRecDepth 65536 in
/-- At an entry: the product's entry, and no less than zero. -/
theorem whole_apply (X : FVec Ideal ⟨2, ![4096, 4096]⟩ .f32) (W : FVec Ideal ⟨2, ![4096, 8192]⟩ .f32) (i : Fin 4096) (j : Fin 8192) :
    (whole X W (ix2 i j) : EReal) = max (∑ k : Fin 4096, (X (ix2 i k) : EReal) * (W (ix2 k j) : EReal)) 0 := by
  unfold whole
  rw [maximumf_apply]
  exact congr (congrArg max (StackMember.dotGeneral_plain_apply none X W i j)) Ideal.ofBits_zero_f32

/-! ## The contraction in sixteen pieces -/

/-- Position `k` of the piece of device `d`. -/
def deep (d : Fin 16) (k : Fin 256) : Fin 4096 := ⟨256 * d.val + k.val, by omega⟩

/-- A sum over the whole contraction is the sum over the pieces. -/
theorem sum_deep (f : Fin 4096 → EReal) : ∑ k : Fin 4096, f k = ∑ d : Fin 16, ∑ k : Fin 256, f (deep d k) := by
  rw [← Fintype.sum_prod_type' fun (d : Fin 16) (k : Fin 256) => f (deep d k)]
  exact (Fintype.sum_equiv (finProdFinEquiv (m := 16) (n := 256)) _ _ fun p =>
    congrArg f (Fin.ext (show 256 * p.1.val + p.2.val = p.2.val + 256 * p.1.val by omega))).symm

/-! ## The devices' arrays are blocks of the whole ones -/

variable (m : (ℓ : Loc nD τ sig) → Buf (Elt Ideal) ℓ)
variable (X : FVec Ideal ⟨2, ![4096, 4096]⟩ .f32) (W : FVec Ideal ⟨2, ![4096, 8192]⟩ .f32)

/-- A device's share is its piece of the contraction. -/
theorem share_whole (d : Dev nD)
    (hx : m ((d : Thread nD τ).loc main_arg0) = Layout.block ⟨2, ![4096, 256]⟩ ⟨2, ![4096, 4096]⟩ 1 16 d X)
    (hw : m ((d : Thread nD τ).loc main_arg1) = Layout.block ⟨2, ![256, 8192]⟩ ⟨2, ![4096, 8192]⟩ 0 16 d W)
    (δ : Bool) (b : Dev nD) (r : Fin 256) (j : Fin 4096) :
    share m δ d b r j = ∑ k : Fin 256, (X (ix2 (rowIx b r) (deep d k)) : EReal) * (W (ix2 (deep d k) (colIx δ j)) : EReal) := by
  refine Finset.sum_congr rfl fun k _ => congr (congrArg (fun a b : EReal => a * b) ?_) ?_
  · refine (congrFun ((xstg_eq m d).trans hx) (ix2 (rowIx b r) k)).trans (congrArg X (funext fun a => Fin.ext ?_))
    match a with
    | ⟨0, _⟩ => rfl
    | ⟨1, _⟩ => show d.val * 256 + k.val = 256 * d.val + k.val; omega
  · refine (wCols_apply m δ d k j).trans ((congrFun ((wstg_eq m d).trans hw) (ix2 k (colIx δ j))).trans (congrArg W (funext fun a => Fin.ext ?_)))
    match a with
    | ⟨0, _⟩ => show d.val * 256 + k.val = 256 * d.val + k.val; omega
    | ⟨1, _⟩ => rfl

/-- So a device's result is its block of the reference's. -/
theorem outAt_block
    (hx : ∀ d : Dev nD, m ((d : Thread nD τ).loc main_arg0) = Layout.block ⟨2, ![4096, 256]⟩ ⟨2, ![4096, 4096]⟩ 1 16 d X)
    (hw : ∀ d : Dev nD, m ((d : Thread nD τ).loc main_arg1) = Layout.block ⟨2, ![256, 8192]⟩ ⟨2, ![4096, 8192]⟩ 0 16 d W)
    (c : Dev nD) : outAt m c = Layout.block ⟨2, ![256, 8192]⟩ ⟨2, ![4096, 8192]⟩ 0 16 c (whole X W) := by
  funext i
  obtain ⟨r, j₀, rfl⟩ : ∃ (r : Fin 256) (j : Fin 8192), i = ix2 r j := ⟨i 0, i 1, eq_ix2 i⟩
  obtain ⟨δ, j, rfl⟩ := colIx_surj j₀
  refine (outAt_apply m δ c r j).trans ((outHalf_apply m δ c r j).trans ?_)
  have hi : Layout.block ⟨2, ![256, 8192]⟩ ⟨2, ![4096, 8192]⟩ 0 16 c (whole X W) (by decide) (ix2 r (colIx δ j)) = whole X W (ix2 (rowIx c r) (colIx δ j)) := by
    refine congrArg (whole X W) (funext fun a => Fin.ext ?_)
    match a with
    | ⟨0, _⟩ => show c.val * 256 + r.val = 256 * c.val + r.val; omega
    | ⟨1, _⟩ => rfl
  refine Eq.trans ?_ hi.symm
  rw [whole_apply, sum_deep]
  exact congrArg (max · 0) (Finset.sum_congr rfl fun d _ => share_whole m X W d (hx d) (hw d) δ c r j)

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Whole
public import Idealize.ShloMosaic.Adequacy
public import Idealize.ShloMosaic.Init

@[expose] public section

noncomputable section

namespace Cert.Proof

open Idealize.ShloMosaic Idealize.SL.Sem Cert.KernelIdeal.Gen Cert.ReferenceIdeal.Gen

/-- The ideal pass rewrote nothing. -/
theorem preserves : Cert.preserves_Kernel_KernelIdeal := trivial

/-- The values: when the devices' arguments are blocks of the whole ones, each device's result ends as its block of the
    reference's. -/
theorem algebraic : Cert.algebraic_KernelIdeal_ReferenceIdeal := fun m g m' g' _ hb =>
  ⟨_, (θ_run Cert.KernelIdeal.defs _ _).mono (fun _ h c =>
      ⟨((h.1 c (2 : Fin 3)).trans (Cert.RingProof.finalA_out m g c)).trans
          (Cert.RingProof.outAt_block m _ _ (fun d => (hb d).1) (fun d => (hb d).2) c),
        (h.1 c (0 : Fin 3)).trans (Cert.RingProof.finalA_x m g c),
        (h.1 c (1 : Fin 3)).trans (Cert.RingProof.finalA_w m g c)⟩)
      (Cert.RingProof.run_main (F := Ideal) m g),
    (θ_run Cert.ReferenceIdeal.defs _ _).mono (fun _ h => h 0) (Cert.ReferenceIdeal.Value.run (F := Ideal) m' g')⟩

/-- The claims together: the three frames, the preservation, the values. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
